-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16384x3 : Shape := ⟨3, ![4, 16384, 3]⟩
abbrev S4x1024x3 : Shape := ⟨3, ![4, 1024, 3]⟩
abbrev S4x3x16384 : Shape := ⟨3, ![4, 3, 16384]⟩
abbrev S4x3x128x128 : Shape := ⟨4, ![4, 3, 128, 128]⟩
abbrev S4x3x1024 : Shape := ⟨3, ![4, 3, 1024]⟩
abbrev S4x3x1024x1 : Shape := ⟨4, ![4, 3, 1024, 1]⟩
abbrev S4x1024x32 : Shape := ⟨3, ![4, 1024, 32]⟩
abbrev S1x3x128x128 : Shape := ⟨4, ![1, 3, 128, 128]⟩
abbrev S1x3x8x1 : Shape := ⟨4, ![1, 3, 8, 1]⟩
abbrev S1x8x32 : Shape := ⟨3, ![1, 8, 32]⟩
abbrev S8x128 : Shape := ⟨2, ![8, 128]⟩
abbrev S1x1x8x1 : Shape := ⟨4, ![1, 1, 8, 1]⟩
abbrev S8x1 : Shape := ⟨2, ![8, 1]⟩
abbrev S1x1x1x128 : Shape := ⟨4, ![1, 1, 1, 128]⟩
abbrev S1x128 : Shape := ⟨2, ![1, 128]⟩
abbrev S1x8x1 : Shape := ⟨3, ![1, 8, 1]⟩
abbrev S4x1024x32x1 : Shape := ⟨4, ![4, 1024, 32, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x16384x3, .f32⟩
  | .hbm, ⟨1, _⟩ => ⟨S4x1024x3, .f32⟩
  | .hbm, ⟨2, _⟩ => ⟨S4x3x16384, .f32⟩
  | .hbm, ⟨3, _⟩ => ⟨S4x3x128x128, .f32⟩
  | .hbm, ⟨4, _⟩ => ⟨S4x3x1024, .f32⟩
  | .hbm, ⟨5, _⟩ => ⟨S4x3x1024x1, .f32⟩
  | .hbm, ⟨6, _⟩ => ⟨S4x1024x32, .i32⟩
  | .hbm, ⟨7, _⟩ => ⟨S4x1024x32x1, .i32⟩
  | .local _ .vmem, ⟨0, _⟩ => ⟨S1x3x128x128, .f32⟩
  | .local _ .vmem, ⟨1, _⟩ => ⟨S1x3x128x128, .f32⟩
  | .local _ .vmem, ⟨2, _⟩ => ⟨S1x3x8x1, .f32⟩
  | .local _ .vmem, ⟨3, _⟩ => ⟨S1x3x8x1, .f32⟩
  | .local _ .vmem, ⟨4, _⟩ => ⟨S1x8x32, .i32⟩
  | .local _ .vmem, ⟨5, _⟩ => ⟨S1x8x32, .i32⟩
  | .local _ .vmem, ⟨6, _⟩ => ⟨S8x128, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 128], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x16384x3 : Shape := ⟨3, ![4, 16384, 3]⟩
abbrev S4x1024x3 : Shape := ⟨3, ![4, 1024, 3]⟩
abbrev S_ : Shape := ⟨0, ![]⟩
abbrev S4x1024 : Shape := ⟨2, ![4, 1024]⟩
abbrev S4x1024x1 : Shape := ⟨3, ![4, 1024, 1]⟩
abbrev S4x16384 : Shape := ⟨2, ![4, 16384]⟩
abbrev S4x1x16384 : Shape := ⟨3, ![4, 1, 16384]⟩
abbrev S4x1024x16384 : Shape := ⟨3, ![4, 1024, 16384]⟩
abbrev S4x1024x32 : Shape := ⟨3, ![4, 1024, 32]⟩
abbrev S4x1024x32x1 : Shape := ⟨4, ![4, 1024, 32, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x1024x3, .f32⟩
  | .hbm, ⟨2, _⟩ => ⟨S4x1024x3, .f32⟩
  | .hbm, ⟨3, _⟩ => ⟨S_, .f32⟩
  | .hbm, ⟨4, _⟩ => ⟨S4x1024, .f32⟩
  | .hbm, ⟨5, _⟩ => ⟨S4x1024x1, .f32⟩
  | .hbm, ⟨6, _⟩ => ⟨S4x16384x3, .f32⟩
  | .hbm, ⟨7, _⟩ => ⟨S_, .f32⟩
  | .hbm, ⟨8, _⟩ => ⟨S4x16384, .f32⟩
  | .hbm, ⟨9, _⟩ => ⟨S4x1x16384, .f32⟩
  | .hbm, ⟨10, _⟩ => ⟨S4x1024x16384, .f32⟩
  | .hbm, ⟨11, _⟩ => ⟨S4x1024x16384, .f32⟩
  | .hbm, ⟨12, _⟩ => ⟨S4x1024x16384, .f32⟩
  | .hbm, ⟨13, _⟩ => ⟨S4x1024x16384, .f32⟩
  | .hbm, ⟨14, _⟩ => ⟨S_, .f32⟩
  | .hbm, ⟨15, _⟩ => ⟨S4x1024x16384, .f32⟩
  | .hbm, ⟨16, _⟩ => ⟨S4x1024x16384, .f32⟩
  | .hbm, ⟨17, _⟩ => ⟨S4x1024x16384, .f32⟩
  | .hbm, ⟨18, _⟩ => ⟨S4x1024x16384, .f32⟩
  | .hbm, ⟨19, _⟩ => ⟨S4x1024x32, .f32⟩
  | .hbm, ⟨20, _⟩ => ⟨S4x1024x32, .i32⟩
  | .hbm, ⟨21, _⟩ => ⟨S4x1024x32x1, .i32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Net.lean ====
/-
  The sorting network of the kernel, written over lists of wires: compare-exchanges, the bitonic merge, the bitonic
  sort, and the merge of two ascending lists that keeps the smaller half. It is stated for any pair of functions `lo`
  and `hi`, so that the same text serves for vectors (as the kernel computes), for the entries at one place, and for
  truth values (where a few hundred cases decide that a merge sorts).
-/
module

public import Mathlib.Data.List.Basic
public import Mathlib.Data.List.Sort
public import Mathlib.Order.Lattice
public import Mathlib.Order.MinMax
public import Mathlib.Data.Bool.Basic

@[expose] public section

set_option maxRecDepth 16384

namespace Cert.Net

variable {α β : Type}

/-- What a compare-exchange leaves on its first wire: the smaller when it sorts upwards, the larger otherwise. -/
def first (lo hi : α → α → α) (up : Bool) (a b : α) : α := bif up then lo a b else hi b a

/-- What a compare-exchange leaves on its second wire. -/
def second (lo hi : α → α → α) (up : Bool) (a b : α) : α := bif up then hi a b else lo b a

/-- The bitonic merge of `2 ^ p` wires. -/
def merge (lo hi : α → α → α) (up : Bool) : Nat → List α → List α
  | 0, l => l
  | p + 1, l =>
    merge lo hi up p (List.zipWith (first lo hi up) (l.take (2 ^ p)) (l.drop (2 ^ p))) ++
      merge lo hi up p (List.zipWith (second lo hi up) (l.take (2 ^ p)) (l.drop (2 ^ p)))

/-- The bitonic sort of `2 ^ p` wires. -/
def sort (lo hi : α → α → α) (up : Bool) : Nat → List α → List α
  | 0, l => l
  | p + 1, l =>
    merge lo hi up (p + 1) (sort lo hi true p (l.take (2 ^ p)) ++ sort lo hi false p (l.drop (2 ^ p)))

/-- The smaller half of two ascending lists of 32, ascending. -/
def mergeTop (lo hi : α → α → α) (a b : List α) : List α :=
  merge lo hi true 5 (List.zipWith lo a b.reverse)

/-! ## Lengths -/

/-- A merge of `2 ^ p` wires has `2 ^ p` wires. -/
theorem length_merge (lo hi : α → α → α) (up : Bool) : ∀ (p : Nat) (l : List α), l.length = 2 ^ p →
    (merge lo hi up p l).length = 2 ^ p
  | 0, l, h => h
  | p + 1, l, h => by
    have h2 : (2 : Nat) ^ (p + 1) = 2 ^ p + 2 ^ p := by rw [Nat.pow_succ]; omega
    simp only [merge, List.length_append]
    rw [length_merge lo hi up p _ (by simp [h, h2]), length_merge lo hi up p _ (by simp [h, h2]), h2]

/-- A sort of `2 ^ p` wires has `2 ^ p` wires. -/
theorem length_sort (lo hi : α → α → α) : ∀ (up : Bool) (p : Nat) (l : List α), l.length = 2 ^ p →
    (sort lo hi up p l).length = 2 ^ p
  | up, 0, l, h => h
  | up, p + 1, l, h => by
    have h2 : (2 : Nat) ^ (p + 1) = 2 ^ p + 2 ^ p := by rw [Nat.pow_succ]; omega
    rw [sort]
    refine length_merge lo hi up _ _ ?_
    rw [List.length_append, length_sort lo hi true p _ (by simp [h, h2]), length_sort lo hi false p _ (by simp [h, h2]), h2]

/-- The merge that keeps the smaller half of twice 32 wires has 32. -/
theorem length_mergeTop (lo hi : α → α → α) (a b : List α) (ha : a.length = 32) (hb : b.length = 32) :
    (mergeTop lo hi a b).length = 32 :=
  length_merge lo hi true 5 _ (by simp [ha, hb])

/-! ## A map that respects the compare-exchanges passes through -/

section Hom
variable (lo hi : α → α → α) (lo' hi' : β → β → β) (f : α → β)
  (hlo : ∀ a b, f (lo a b) = lo' (f a) (f b)) (hhi : ∀ a b, f (hi a b) = hi' (f a) (f b))
include hlo hhi

/-- `f` passes through the first wire of a compare-exchange. -/
theorem map_first (up : Bool) (a b : α) : f (first lo hi up a b) = first lo' hi' up (f a) (f b) := by
  unfold first; cases up <;> simp [hlo, hhi]

/-- `f` passes through the second wire of a compare-exchange. -/
theorem map_second (up : Bool) (a b : α) : f (second lo hi up a b) = second lo' hi' up (f a) (f b) := by
  unfold second; cases up <;> simp [hlo, hhi]

/-- `f` passes through a merge. -/
theorem map_merge (up : Bool) : ∀ (p : Nat) (l : List α),
    (merge lo hi up p l).map f = merge lo' hi' up p (l.map f)
  | 0, l => rfl
  | p + 1, l => by
    simp only [merge, List.map_append]
    rw [map_merge up p, map_merge up p, List.map_zipWith, List.map_zipWith, ← List.map_take, ← List.map_drop,
      List.zipWith_map, List.zipWith_map]
    simp only [map_first lo hi lo' hi' f hlo hhi, map_second lo hi lo' hi' f hlo hhi]

/-- `f` passes through a sort. -/
theorem map_sort : ∀ (up : Bool) (p : Nat) (l : List α),
    (sort lo hi up p l).map f = sort lo' hi' up p (l.map f)
  | up, 0, l => rfl
  | up, p + 1, l => by
    rw [sort, sort, map_merge lo hi lo' hi' f hlo hhi, List.map_append, map_sort true p, map_sort false p,
      ← List.map_take, ← List.map_drop]

/-- `f` passes through the merge that keeps the smaller half. -/
theorem map_mergeTop (a b : List α) :
    (mergeTop lo hi a b).map f = mergeTop lo' hi' (a.map f) (b.map f) := by
  rw [mergeTop, mergeTop, map_merge lo hi lo' hi' f hlo hhi, List.map_zipWith, ← List.map_reverse, List.zipWith_map]
  simp only [hlo]

end Hom

/-! ## Over a linear order: a rearrangement -/

section Order
variable {κ : Type} [LinearOrder κ]

/-- The smaller and the larger of each pair together are the two lists, rearranged. -/
theorem zipWith_minmax_perm : ∀ (u v : List κ), u.length = v.length →
    (List.zipWith min u v ++ List.zipWith max u v).Perm (u ++ v)
  | [], [], _ => by simp
  | a :: u, b :: v, h => by
    have ih := zipWith_minmax_perm u v (by simpa using h)
    simp only [List.zipWith_cons_cons, List.cons_append]
    have e1 : (min a b :: (List.zipWith min u v ++ max a b :: List.zipWith max u v)).Perm
        (min a b :: max a b :: (u ++ v)) :=
      List.Perm.cons _ (List.perm_middle.trans (List.Perm.cons _ ih))
    have e2 : (a :: (u ++ b :: v)).Perm (a :: b :: (u ++ v)) := List.Perm.cons _ List.perm_middle
    refine e1.trans (List.Perm.trans ?_ e2.symm)
    rcases le_total a b with hab | hab
    · rw [min_eq_left hab, max_eq_right hab]
    · rw [min_eq_right hab, max_eq_left hab]; exact List.Perm.swap _ _ _

/-- A column of compare-exchanges, in either direction, rearranges its wires. -/
theorem exchange_perm (up : Bool) (u v : List κ) (h : u.length = v.length) :
    (List.zipWith (first min max up) u v ++ List.zipWith (second min max up) u v).Perm (u ++ v) := by
  cases up
  · have e1 : List.zipWith (first min max false) u v = List.zipWith max u v := by
      congr 1; funext a b; simp [first, max_comm]
    have e2 : List.zipWith (second min max false) u v = List.zipWith min u v := by
      congr 1; funext a b; simp [second, min_comm]
    rw [e1, e2]
    exact List.perm_append_comm.trans (zipWith_minmax_perm u v h)
  · exact zipWith_minmax_perm u v h

/-- A merge rearranges its wires. -/
theorem merge_perm (up : Bool) : ∀ (p : Nat) (l : List κ), l.length = 2 ^ p → (merge min max up p l).Perm l
  | 0, l, _ => List.Perm.refl _
  | p + 1, l, h => by
    have h2 : (2 : Nat) ^ (p + 1) = 2 ^ p + 2 ^ p := by rw [Nat.pow_succ]; omega
    rw [merge]
    refine ((merge_perm up p _ (by simp [h, h2])).append (merge_perm up p _ (by simp [h, h2]))).trans ?_
    refine (exchange_perm up _ _ (by simp [h, h2])).trans ?_
    rw [List.take_append_drop]

/-- A sort rearranges its wires. -/
theorem sort_perm : ∀ (up : Bool) (p : Nat) (l : List κ), l.length = 2 ^ p → (sort min max up p l).Perm l
  | up, 0, l, _ => List.Perm.refl _
  | up, p + 1, l, h => by
    have h2 : (2 : Nat) ^ (p + 1) = 2 ^ p + 2 ^ p := by rw [Nat.pow_succ]; omega
    rw [sort]
    refine (merge_perm up _ _ ?_).trans ?_
    · rw [List.length_append, length_sort _ _ true p _ (by simp [h, h2]), length_sort _ _ false p _ (by simp [h, h2]), h2]
    · refine ((sort_perm true p _ (by simp [h, h2])).append (sort_perm false p _ (by simp [h, h2]))).trans ?_
      rw [List.take_append_drop]

/-! ## Sortedness, decided on truth values -/

/-- Ascending (`up`) or descending. -/
def Sorted (up : Bool) (l : List κ) : Prop := if up then l.Pairwise (· ≤ ·) else l.Pairwise (· ≥ ·)

/-- A list is in order if, for every threshold, the truth values "above it" are. -/
theorem sorted_of_threshold (up : Bool) (l : List κ)
    (h : ∀ t : κ, Sorted up (l.map fun x => decide (t < x))) : Sorted up l := by
  cases up
  · simp only [Sorted, Bool.false_eq_true, if_false] at h ⊢
    rw [List.pairwise_iff_getElem]
    intro i j hi hj hij
    by_contra hlt
    have := (List.pairwise_iff_getElem.mp (h l[i])) i j (by simpa using hi) (by simpa using hj) hij
    simp only [List.getElem_map, lt_irrefl, decide_false, ge_iff_le] at this
    rw [not_le] at hlt
    simp only [hlt, decide_true] at this
    exact absurd this (by decide)
  · simp only [Sorted, if_true] at h ⊢
    rw [List.pairwise_iff_getElem]
    intro i j hi hj hij
    by_contra hlt
    have := (List.pairwise_iff_getElem.mp (h l[j])) i j (by simpa using hi) (by simpa using hj) hij
    simp only [List.getElem_map, lt_irrefl, decide_false] at this
    rw [not_le] at hlt
    simp only [hlt, decide_true] at this
    exact absurd this (by decide)

/-- "Above the threshold" turns a minimum into a conjunction. -/
theorem threshold_min (t a b : κ) : decide (t < min a b) = and (decide (t < a)) (decide (t < b)) := by
  rw [Bool.eq_iff_iff]
  simp [lt_min_iff]

/-- "Above the threshold" turns a maximum into a disjunction. -/
theorem threshold_max (t a b : κ) : decide (t < max a b) = or (decide (t < a)) (decide (t < b)) := by
  rw [Bool.eq_iff_iff]
  simp [lt_max_iff]

/-- The truth values "above the threshold" of a list in order are in order. -/
theorem sorted_threshold (up : Bool) (l : List κ) (h : Sorted up l) (t : κ) :
    Sorted up (l.map fun x => decide (t < x)) := by
  cases up
  · simp only [Sorted, Bool.false_eq_true, if_false] at h ⊢
    rw [List.pairwise_map]
    refine h.imp fun {a b} hab => ?_
    simp only [ge_iff_le, Bool.le_iff_imp, decide_eq_true_eq]
    exact fun h => h.trans_le hab
  · simp only [Sorted, if_true] at h ⊢
    rw [List.pairwise_map]
    refine h.imp fun {a b} hab => ?_
    simp only [Bool.le_iff_imp, decide_eq_true_eq]
    exact fun h => h.trans_le hab

/-- A run of one truth value, then a run of the other: `n` in all, `c` of them first. -/
def step (x : Bool) (n c : Nat) : List Bool := List.replicate c x ++ List.replicate (n - c) (!x)

/-- Truth values in order are one run of each value. -/
theorem eq_step_of_sorted (up : Bool) : ∀ (l : List Bool), Sorted up l →
    ∃ c, c ≤ l.length ∧ l = step (!up) l.length c
  | [], _ => ⟨0, le_refl _, by simp [step]⟩
  | x :: l, h => by
    have hl : Sorted up l := by
      cases up <;> simp only [Sorted, Bool.false_eq_true, if_false, if_true, List.pairwise_cons] at h ⊢ <;> exact h.2
    obtain ⟨c, hc, e⟩ := eq_step_of_sorted up l hl
    by_cases hx : x = !up
    · refine ⟨c + 1, by simpa using hc, ?_⟩
      conv_lhs => rw [e, hx]
      simp [step, List.replicate_succ]
    · have hx' : x = up := Bool.ne_not.mp hx
      refine ⟨0, Nat.zero_le _, ?_⟩
      have hall : ∀ y ∈ l, y = up := by
        intro y hy
        have : (if up then x ≤ y else x ≥ y) := by
          cases up <;> simp only [Sorted, Bool.false_eq_true, if_false, if_true, List.pairwise_cons] at h ⊢ <;> exact h.1 y hy
        rw [hx'] at this
        exact (by decide : ∀ u w : Bool, (if u then u ≤ w else u ≥ w) → w = u) up y this
      have : l = List.replicate l.length up := List.eq_replicate_iff.mpr ⟨rfl, hall⟩
      simp only [step, List.replicate_zero, List.nil_append, Nat.sub_zero, Bool.not_not, List.length_cons, List.replicate_succ]
      rw [hx', ← this]

/-- The check of order on truth values: once `up` has appeared, only `up` follows. -/
def ordered (up : Bool) : List Bool → Bool
  | [] => true
  | x :: l => (bif xor x up then true else l.all fun y => !(xor y up)) && ordered up l

/-- What passes the check of order is in order. -/
theorem sorted_of_ordered (up : Bool) : ∀ l : List Bool, ordered up l = true → Sorted up l
  | [], _ => by cases up <;> simp [Sorted]
  | x :: l, h => by
    rw [ordered, Bool.and_eq_true] at h
    have ih := sorted_of_ordered up l h.2
    have hx : ∀ y ∈ l, x = up → y = up := by
      intro y hy e
      have h1 := h.1
      rw [e, Bool.xor_self, cond_false, List.all_eq_true] at h1
      have := h1 y hy
      cases y <;> cases up <;> simp_all
    cases up
    · simp only [Sorted, Bool.false_eq_true, if_false, List.pairwise_cons] at ih ⊢
      refine ⟨fun y hy => ?_, ih⟩
      have := hx y hy
      cases x <;> cases y <;> simp_all
    · simp only [Sorted, if_true, List.pairwise_cons] at ih ⊢
      refine ⟨fun y hy => ?_, ih⟩
      have := hx y hy
      cases x <;> cases y <;> simp_all

/-- The check of a merge of two runs, over every pair of counts below `n`. -/
def mergeCheck (up : Bool) (p : Nat) : Bool :=
  (List.range (2 ^ p + 1)).all fun a => (List.range (2 ^ p + 1)).all fun b =>
    ordered up (merge and or up (p + 1) (step false (2 ^ p) a ++ step true (2 ^ p) b))

/-- The check of the merge that keeps the smaller half. -/
def mergeTopCheck : Bool :=
  (List.range 33).all fun a => (List.range 33).all fun b =>
    ordered true (mergeTop and or (step false 32 a) (step false 32 b))

/-- Every merge of up to 32 wires passes the check. -/
theorem mergeCheck_eq : ((List.range 5).all fun p => mergeCheck true p && mergeCheck false p) = true := by decide +kernel

/-- The merge that keeps the smaller half passes the check. -/
theorem mergeTopCheck_eq : mergeTopCheck = true := by decide +kernel

/-- On truth values a merge sorts an ascending run followed by a descending one. -/
theorem merge_bool (p : Nat) (hp : p < 5) (up : Bool) (a b : Nat) (ha : a ≤ 2 ^ p) (hb : b ≤ 2 ^ p) :
    Sorted up (merge and or up (p + 1) (step false (2 ^ p) a ++ step true (2 ^ p) b)) := by
  refine sorted_of_ordered _ _ ?_
  have h := List.all_eq_true.mp mergeCheck_eq p (List.mem_range.mpr hp)
  rw [Bool.and_eq_true] at h
  have h' : mergeCheck up p = true := by cases up; exacts [h.2, h.1]
  unfold mergeCheck at h'
  exact List.all_eq_true.mp (List.all_eq_true.mp h' a (List.mem_range.mpr (Nat.lt_succ_of_le ha))) b
    (List.mem_range.mpr (Nat.lt_succ_of_le hb))

/-- On truth values the merge that keeps the smaller half sorts it. -/
theorem mergeTop_bool (a b : Nat) (ha : a ≤ 32) (hb : b ≤ 32) :
    Sorted true (mergeTop and or (step false 32 a) (step false 32 b)) := by
  refine sorted_of_ordered _ _ ?_
  have h := mergeTopCheck_eq
  unfold mergeTopCheck at h
  exact List.all_eq_true.mp (List.all_eq_true.mp h a (List.mem_range.mpr (Nat.lt_succ_of_le ha))) b
    (List.mem_range.mpr (Nat.lt_succ_of_le hb))

/-- A merge of up to 32 wires sorts an ascending list followed by a descending one. -/
theorem merge_sorted (p : Nat) (hp : p < 5) (up : Bool) (u v : List κ) (hu : u.length = 2 ^ p) (hv : v.length = 2 ^ p)
    (su : Sorted true u) (sv : Sorted false v) : Sorted up (merge min max up (p + 1) (u ++ v)) := by
  refine sorted_of_threshold up _ fun t => ?_
  rw [map_merge min max and or _ (threshold_min t) (threshold_max t), List.map_append]
  obtain ⟨a, ha, ea⟩ := eq_step_of_sorted true _ (sorted_threshold true u su t)
  obtain ⟨b, hb, eb⟩ := eq_step_of_sorted false _ (sorted_threshold false v sv t)
  rw [ea, eb]
  simp only [List.length_map, hu, hv] at ha hb ⊢
  exact merge_bool p hp up a b ha hb

/-- A sort of up to 32 wires sorts. -/
theorem sort_sorted : ∀ (p : Nat) (hp : p ≤ 5) (up : Bool) (l : List κ), l.length = 2 ^ p → Sorted up (sort min max up p l)
  | 0, _, up, l, h => by
    obtain ⟨x, rfl⟩ := List.length_eq_one_iff.mp (by simpa using h)
    cases up <;> simp [Sorted, sort]
  | p + 1, hp, up, l, h => by
    have h2 : (2 : Nat) ^ (p + 1) = 2 ^ p + 2 ^ p := by rw [Nat.pow_succ]; omega
    rw [sort]
    exact merge_sorted p (by omega) up _ _ (length_sort _ _ _ p _ (by simp [h, h2])) (length_sort _ _ _ p _ (by simp [h, h2]))
      (sort_sorted p (by omega) true _ (by simp [h, h2])) (sort_sorted p (by omega) false _ (by simp [h, h2]))

/-- The merge that keeps the smaller half of two ascending lists leaves it ascending. -/
theorem mergeTop_sorted (u v : List κ) (hu : u.length = 32) (hv : v.length = 32)
    (su : Sorted true u) (sv : Sorted true v) : Sorted true (mergeTop min max u v) := by
  refine sorted_of_threshold true _ fun t => ?_
  rw [map_mergeTop min max and or _ (threshold_min t) (threshold_max t)]
  obtain ⟨a, ha, ea⟩ := eq_step_of_sorted true _ (sorted_threshold true u su t)
  obtain ⟨b, hb, eb⟩ := eq_step_of_sorted true _ (sorted_threshold true v sv t)
  rw [ea, eb]
  simp only [List.length_map, hu, hv] at ha hb ⊢
  exact mergeTop_bool a b ha hb

/-! ## The smallest 32 of a collection -/

/-- `R` holds, in ascending order, the 32 smallest of `M`. -/
structure Top (R M : List κ) : Prop where
  len : R.length = 32
  sorted : R.Pairwise (· ≤ ·)
  split : ∃ rest, (R ++ rest).Perm M ∧ ∀ x ∈ R, ∀ y ∈ rest, x ≤ y

/-- A sort of 32 entries holds the 32 smallest of them. -/
theorem Top.of_sort (l : List κ) (h : l.length = 32) : Top (sort min max true 5 l) l where
  len := length_sort _ _ _ 5 _ h
  sorted := sort_sorted 5 (le_refl _) true l h
  split := ⟨[], by simpa using sort_perm true 5 l h, by simp⟩

/-- The 32 smallest do not depend on how the collection is arranged. -/
theorem Top.perm {R M N : List κ} (h : Top R M) (e : M.Perm N) : Top R N where
  len := h.len
  sorted := h.sorted
  split := let ⟨rest, hp, hd⟩ := h.split; ⟨rest, hp.trans e, hd⟩

/-- Merging the 32 smallest of two collections gives the 32 smallest of both together. -/
theorem Top.mergeTop {R S M N : List κ} (hR : Top R M) (hS : Top S N) :
    Top (Net.mergeTop min max R S) (M ++ N) where
  len := length_mergeTop _ _ _ _ hR.len hS.len
  sorted := mergeTop_sorted R S hR.len hS.len hR.sorted hS.sorted
  split := by
    obtain ⟨r, pr, dr⟩ := hR.split
    obtain ⟨s, ps, ds⟩ := hS.split
    have hlen : R.length = S.reverse.length := by rw [List.length_reverse, hR.len, hS.len]
    have hm : (Net.mergeTop min max R S).Perm (List.zipWith min R S.reverse) :=
      merge_perm true 5 _ (by simp [hR.len, hS.len])
    refine ⟨List.zipWith max R S.reverse ++ (r ++ s), ?_, ?_⟩
    · have e1 : (Net.mergeTop min max R S ++ (List.zipWith max R S.reverse ++ (r ++ s))).Perm
          ((R ++ S) ++ (r ++ s)) := by
        rw [← List.append_assoc]
        refine List.Perm.append_right _ ?_
        refine (hm.append_right _).trans ((zipWith_minmax_perm R S.reverse hlen).trans ?_)
        exact List.Perm.append_left _ (List.reverse_perm S)
      refine e1.trans (List.Perm.trans ?_ (pr.append ps))
      rw [List.append_assoc, List.append_assoc]
      refine List.Perm.append_left _ ?_
      rw [← List.append_assoc, ← List.append_assoc]
      exact List.Perm.append_right _ List.perm_append_comm
    · intro x hx y hy
      have hx' := hm.mem_iff.mp hx
      obtain ⟨i, hi, ex⟩ := List.mem_iff_getElem.mp hx'
      have hi' : i < 32 := by simpa [hR.len, hS.len] using hi
      rw [List.getElem_zipWith, List.getElem_reverse] at ex
      have hxR : x ≤ R[i]'(by rw [hR.len]; exact hi') := by rw [← ex]; exact min_le_left _ _
      have hxS : x ≤ S[S.length - 1 - i]'(by rw [hS.len]; omega) := by rw [← ex]; exact min_le_right _ _
      rcases List.mem_append.mp hy with hy | hy
      · obtain ⟨j, hj, ey⟩ := List.mem_iff_getElem.mp hy
        have hj' : j < 32 := by simpa [hR.len, hS.len] using hj
        rw [List.getElem_zipWith, List.getElem_reverse] at ey
        rw [← ey]
        rcases Nat.le_total i j with hij | hij
        · refine hxR.trans (le_trans ?_ (le_max_left _ _))
          rcases Nat.eq_or_lt_of_le hij with e | hlt
          · subst e; exact le_refl _
          · exact (List.pairwise_iff_getElem.mp hR.sorted) i j _ _ hlt
        · refine hxS.trans (le_trans ?_ (le_max_right _ _))
          rcases Nat.eq_or_lt_of_le hij with e | hlt
          · subst e; exact le_refl _
          · exact (List.pairwise_iff_getElem.mp hS.sorted) _ _ _ _ (by rw [hS.len]; omega)
      · rcases List.mem_append.mp hy with hy | hy
        · exact hxR.trans (dr _ (List.getElem_mem _) _ hy)
        · exact hxS.trans (ds _ (List.getElem_mem _) _ hy)

end Order

end Cert.Net
-- ==== Proof.Network.lean ====
/-
  The kernel's computation at one grid point, as a function of the two loaded blocks: 128 wires of squared distances with
  the indices of the points, four sorted chunks of 32 wires, the merges that keep the smaller half, and the seven merges
  with the wires rolled along the lanes.
-/
module

public import proofs.«01_k».proof.Proof.Gen.KernelIdeal.Frame
public import proofs.«01_k».proof.Proof.Net

@[expose] public section

set_option maxRecDepth 16384

noncomputable section

namespace Cert.KernelIdeal.Network

open Idealize.ShloMosaic Idealize.ShloMosaic.TcCoe Idealize.ShloMosaic.Tactic
open Idealize.SL Idealize.SL.Sem
open Cert.KernelIdeal.Gen

variable {F : FTy → Type} [FloatOps F]

/-- The values on a wire and the indices that go with them. -/
abbrev Wire (F : FTy → Type) [FloatOps F] := FVec F S8x128 .f32 × FVec F S8x128 .f32

/-- Where the second wire comes before the first: a smaller value, or the same value at a smaller index. -/
def swap (a b : Wire F) : IVec S8x128 1 :=
  ori (cmpf .olt b.1 a.1) (andi (cmpf .oeq b.1 a.1) (cmpf .olt b.2 a.2))

/-- The earlier of two wires, place by place. -/
def lo (a b : Wire F) : Wire F := (select (swap a b) b.1 a.1, select (swap a b) b.2 a.2)

/-- The later of two wires, place by place. -/
def hi (a b : Wire F) : Wire F := (select (swap a b) a.1 b.1, select (swap a b) a.2 b.2)

/-- A vector with its lanes moved down by `128 - n`. -/
def turn (n : Nat) (x : FVec F S8x128 .f32) : FVec F S8x128 .f32 :=
  dynamicRotate 1 (BitVec.ofNat 32 n) none x rotates_S8x128_d1

/-- A wire with its lanes moved. -/
def roll (n : Nat) (w : Wire F) : Wire F := (turn n w.1, turn n w.2)

/-- Rounded to the narrower format and back. -/
def narrow {s : Shape} (x : FVec F s .f32) : FVec F s .f32 := extf .f32 (truncf .bf16 x bitsLt_bf16_f32) bitsLt_bf16_f32

/-- The sum of the squares of three coordinates. -/
def norm {s : Shape} (x y z : FVec F s .f32) : FVec F s .f32 := addf (addf (mulf x x) (mulf y y)) (mulf z z)

/-- The product of a query coordinate and a point coordinate. -/
def prod (q : FVec F S8x1 .f32) (p : FVec F S1x128 .f32) : FVec F S8x128 .f32 :=
  mulf (broadcastTo S8x128 (narrow q) broadcasts_S8x1_S8x128) (broadcastTo S8x128 (narrow p) broadcasts_S1x128_S8x128)

/-- The squared distances between eight queries and one row of points. -/
def dist (q0 q1 q2 : FVec F S8x1 .f32) (p0 p1 p2 : FVec F S1x128 .f32) : FVec F S8x128 .f32 :=
  subf (addf (broadcastTo S8x128 (norm q0 q1 q2) broadcasts_S8x1_S8x128) (broadcastTo S8x128 (norm p0 p1 p2) broadcasts_S1x128_S8x128))
    (mulf (broadcast S8x128 (Scalar.ofBits .f32 0x40000000#32)) (addf (addf (prod q0 p0) (prod q1 p1)) (prod q2 p2)))

/-- The bits of the float `128 * e`. -/
def bits (e : Nat) : BitVec 32 :=
  BitVec.ofNat 32 (bif e.beq 0 then 0 else (134 + e.log2) * 2 ^ 23 + (e - 2 ^ e.log2) * 2 ^ (23 - e.log2))

/-- The indices of the points of row `e`. -/
def index (e : Nat) : FVec F S8x128 .f32 :=
  addf (sitofp .f32 (iota .tc S8x128 32 [1] iota_S8x128_d1_w32)) (broadcast S8x128 (Scalar.ofBits .f32 (bits e)))

/-- The read of a coordinate of the queries stays inside. -/
theorem inbQ (k : Fin 3) : ∀ a, (![0, k.val, 0, 0] : Fin 4 → Nat) a + S1x1x8x1.size a ≤ S1x3x8x1.size a := by
  revert k; decide

/-- The read of a row of points stays inside. -/
theorem inbP (k : Fin 3) (e : Nat) : ∀ a, (![0, k.val, e % 128, 0] : Fin 4 → Nat) a + S1x1x1x128.size a ≤ S1x3x128x128.size a := by
  have he : e % 128 < 128 := Nat.mod_lt _ (by decide)
  generalize e % 128 = n at he
  have : ∀ (k : Fin 3) (n : Fin 128), ∀ a, (![0, k.val, n.val, 0] : Fin 4 → Nat) a + S1x1x1x128.size a ≤ S1x3x128x128.size a := by
    decide +kernel
  exact this k ⟨n, he⟩

/-- The rectangle of one query coordinate. -/
def rectQ (k : Fin 3) : Rect S1x3x8x1 := Rect.unit ![0, k.val, 0, 0] S1x1x8x1.size (inbQ k)

/-- The rectangle of one coordinate of a row of points. -/
def rectP (k : Fin 3) (e : Nat) : Rect S1x3x128x128 := Rect.unit ![0, k.val, e % 128, 0] S1x1x1x128.size (inbP k e)

/-- The store of a column stays inside. -/
theorem inbO (j : Nat) : ∀ a, (![0, 0, j % 32] : Fin 3 → Nat) a + S1x8x1.size a ≤ S1x8x32.size a := by
  have he : j % 32 < 32 := Nat.mod_lt _ (by decide)
  generalize j % 32 = n at he
  have : ∀ (n : Fin 32), ∀ a, (![0, 0, n.val] : Fin 3 → Nat) a + S1x8x1.size a ≤ S1x8x32.size a := by
    decide +kernel
  exact this ⟨n, he⟩

/-- The rectangle of one column of the result. -/
def rectO (j : Nat) : Rect S1x8x32 := Rect.unit ![0, 0, j % 32] S1x8x1.size (inbO j)

/-- The wires, from the coordinates of the queries and of the rows of points. -/
def wires (q : Fin 3 → FVec F S1x1x8x1 .f32) (p : Fin 3 → Nat → FVec F S1x1x1x128 .f32) : List (Wire F) :=
  (List.range 128).map fun e =>
    (dist (shapeCast S8x1 (q 0) shapeCasts_S1x1x8x1_S8x1) (shapeCast S8x1 (q 1) shapeCasts_S1x1x8x1_S8x1)
        (shapeCast S8x1 (q 2) shapeCasts_S1x1x8x1_S8x1)
        (shapeCast S1x128 (p 0 e) shapeCasts_S1x1x1x128_S1x128) (shapeCast S1x128 (p 1 e) shapeCasts_S1x1x1x128_S1x128)
        (shapeCast S1x128 (p 2 e) shapeCasts_S1x1x1x128_S1x128),
      index e)

/-- The wires after the four chunks are sorted and merged: the 32 first of every lane. -/
def lanes (w : List (Wire F)) : List (Wire F) :=
  Net.mergeTop lo hi
    (Net.mergeTop lo hi (Net.sort lo hi true 5 (w.take 32)) (Net.sort lo hi true 5 ((w.drop 32).take 32)))
    (Net.mergeTop lo hi (Net.sort lo hi true 5 ((w.drop 64).take 32)) (Net.sort lo hi true 5 ((w.drop 96).take 32)))

/-- One merge with the wires rolled. -/
def step (n : Nat) (R : List (Wire F)) : List (Wire F) := Net.mergeTop lo hi R (R.map (roll n))

/-- The wires at the end. -/
def final (w : List (Wire F)) : List (Wire F) :=
  step 64 (step 96 (step 112 (step 120 (step 124 (step 126 (step 127 (lanes w)))))))

/-- What is stored from one wire: the indices of the first lane, as words. -/
def column (x : FVec F S8x128 .f32) : IVec S1x8x1 32 :=
  shapeCast S1x8x1 (fptosi 32 (extractStridedSlice S8x1 ![0, 0] x slices_S8x128_o0_0_S8x1)) shapeCasts_S8x1_S1x8x1

/-- The pieces stored, the last column first. -/
def pieces (R : List (Wire F)) (junk : Wire F) : List (View.Piece (Elt F) S1x8x32 .i32) :=
  ((List.range 32).map fun j => ⟨rectO (31 - j), column (R.getD (31 - j) junk).2⟩)

end Cert.KernelIdeal.Network
-- ==== Proof.Match.lean ====
/-
  What a run of the kernel's body stores is the network's result.
-/
module

public import proofs.«01_k».proof.Proof.Network

@[expose] public section

set_option maxRecDepth 65536
set_option maxHeartbeats 0

noncomputable section

namespace Cert.KernelIdeal.Network

open Idealize.ShloMosaic Idealize.ShloMosaic.TcCoe Idealize.ShloMosaic.Tactic
open Idealize.SL Idealize.SL.Sem
open Cert.KernelIdeal.Gen

variable {F : FTy → Type} [FloatOps F]

/-- The wires of a grid point, from the two blocks as the body loads them. -/
def loaded (arg2 : Memref sig .tc .vmem S1x3x128x128 .f32) (harg2 : arg2.IsWhole) (arg3 : Memref sig .tc .vmem S1x3x8x1 .f32)
    (harg3 : arg3.IsWhole) (x0 : Vec F S1x3x128x128 .f32) (x1 : Vec F S1x3x8x1 .f32) : List (Wire F) :=
  wires (fun k => View.readAt (Elt F) arg3.view (rectQ k).toLoadRect (harg3.unread x1))
    (fun k e => View.readAt (Elt F) arg2.view (rectP k e).toLoadRect (harg2.unread x0))

/-- The pieces that the run stores are those of the network, fed with what the run loads. -/
theorem run_eq (c : Dev nD) (i : grid0.Coords) (arg2 : Memref sig .tc .vmem S1x3x128x128 .f32) (harg2 : arg2.IsWhole)
    (arg3 : Memref sig .tc .vmem S1x3x8x1 .f32) (harg3 : arg3.IsWhole) (arg4 : Memref sig .tc .vmem S1x8x32 .i32)
    (harg4 : arg4.IsWhole) (arg5 : Memref sig .tc .vmem S8x128 .f32) (harg5 : arg5.IsWhole)
    (x0 : Vec F S1x3x128x128 .f32) (x1 : Vec F S1x3x8x1 .f32) (junk : Wire F) :
    (kernelRun0_A c i arg2 harg2 arg3 harg3 arg4 harg4 arg5 harg5 x0 x1).1 =
      pieces (final (loaded arg2 harg2 arg3 harg3 x0 x1)) junk := by
  sl_kernel_rfl

end Cert.KernelIdeal.Network
-- ==== Proof.Lanes.lean ====
/-
  The network read at one place of the vectors: the compare-exchanges are minimum and maximum of pairs (value, index) in
  the lexicographic order, the rolls move the lane, and so the wires at the end hold, in the first lane, the 32 least pairs
  of all the lanes.
-/
module

public import proofs.«01_k».proof.Proof.Network
public import Mathlib.Data.Prod.Lex
public import Idealize.ShloMosaic.PureOps.Ideal
public import Idealize.ShloMosaic.Lib.ValueIdxCore

@[expose] public section

set_option maxRecDepth 16384

noncomputable section

namespace Cert.KernelIdeal.Network

open Idealize.ShloMosaic Idealize.ShloMosaic.TcCoe Idealize.ShloMosaic.ValueIdx
open Cert.KernelIdeal.Gen

/-- A value with the index it belongs to, ordered by the value and then by the index. -/
abbrev Entry := EReal ×ₗ EReal

/-- The entry of a wire at one place. -/
def entryAt (j : S8x128.Idx) (w : Wire Ideal) : Entry := toLex ((w.1 j : EReal), (w.2 j : EReal))

/-- An entry comes before another by its distance, and at equal distances by its number. -/
theorem entry_lt (a b c d : EReal) : (toLex (a, b) : Entry) < toLex (c, d) ↔ a < c ∨ (a = c ∧ b < d) := Prod.Lex.toLex_lt_toLex

/-- The kernel swaps two wires at a place exactly when the second entry comes before the first. -/
theorem swap_apply (a b : Wire Ideal) (j : S8x128.Idx) : (swap a b j = 1#1) ↔ entryAt j b < entryAt j a := by
  unfold entryAt
  rw [entry_lt]
  show (BitVec.ofBool (decide ((b.1 j : EReal) < a.1 j)) |||
    (BitVec.ofBool (decide ((b.1 j : EReal) = a.1 j)) &&& BitVec.ofBool (decide ((b.2 j : EReal) < a.2 j)))) = 1#1 ↔ _
  by_cases h1 : (b.1 j : EReal) < a.1 j <;> by_cases h2 : (b.1 j : EReal) = a.1 j <;>
    by_cases h3 : (b.2 j : EReal) < a.2 j <;> simp [h1, h2, h3]

/-- What the kernel keeps as the smaller is, at each place, the smaller entry. -/
theorem entryAt_lo (j : S8x128.Idx) (a b : Wire Ideal) : entryAt j (lo a b) = min (entryAt j a) (entryAt j b) := by
  have h := swap_apply a b j
  by_cases hs : swap a b j = 1#1
  · have e : entryAt j (lo a b) = entryAt j b := by
      unfold entryAt lo select Scalar.select; simp only [hs]; rfl
    rw [e, min_eq_right (le_of_lt (h.mp hs))]
  · have e : entryAt j (lo a b) = entryAt j a := by
      unfold entryAt lo select Scalar.select; simp only [show ¬ (swap a b j = 1) from hs, if_false]
    rw [e, min_eq_left (not_lt.mp fun hh => hs (h.mpr hh))]

/-- What the kernel keeps as the larger is, at each place, the larger entry. -/
theorem entryAt_hi (j : S8x128.Idx) (a b : Wire Ideal) : entryAt j (hi a b) = max (entryAt j a) (entryAt j b) := by
  have h := swap_apply a b j
  by_cases hs : swap a b j = 1#1
  · have e : entryAt j (hi a b) = entryAt j a := by
      unfold entryAt hi select Scalar.select; simp only [hs]; rfl
    rw [e, max_eq_left (le_of_lt (h.mp hs))]
  · have e : entryAt j (hi a b) = entryAt j b := by
      unfold entryAt hi select Scalar.select; simp only [show ¬ (swap a b j = 1) from hs, if_false]
    rw [e, max_eq_right (not_lt.mp fun hh => hs (h.mpr hh))]

/-- The place of a query and a lane, the lane counted around. -/
def place (r : Fin 8) (l : Nat) : S8x128.Idx := ix2 r ⟨l % 128, Nat.mod_lt _ (by decide)⟩

/-- The rotation moves a lane by `128 - n`, around the end. -/
theorem turn_apply (n : Nat) (hn : n < 128) (x : FVec Ideal S8x128 .f32) (r : Fin 8) (l : Nat) :
    turn n x (place r l) = x (place r (l + (128 - n))) := by
  unfold turn dynamicRotate
  refine congrArg x (funext fun b => ?_)
  match b with
  | ⟨0, _⟩ => rfl
  | ⟨1, _⟩ =>
    apply Fin.ext
    show ((l % 128) + 128 - ((BitVec.ofNat 32 n).toNat + 0) % 128) % 128 = (l + (128 - n)) % 128
    rw [BitVec.toNat_ofNat]
    omega

/-- A rotated wire has at a lane the entry of the lane `128 - n` further on. -/
theorem entryAt_roll (n : Nat) (hn : n < 128) (w : Wire Ideal) (r : Fin 8) (l : Nat) :
    entryAt (place r l) (roll n w) = entryAt (place r (l + (128 - n))) w := by
  unfold entryAt roll
  simp only [turn_apply n hn]

section

variable (r : Fin 8)

/-- The entries of one lane. -/
abbrev lane (w : List (Wire Ideal)) (l : Nat) : List Entry := w.map (entryAt (place r l))

/-- After the sort of 32 wires each lane holds its own 32 entries in order. -/
theorem lane_sort (w : List (Wire Ideal)) (l : Nat) (h : w.length = 32) : Net.Top (lane r (Net.sort lo hi true 5 w) l) (lane r w l) := by
  unfold lane
  rw [Net.map_sort lo hi min max (entryAt (place r l)) (entryAt_lo _) (entryAt_hi _)]
  exact Net.Top.of_sort _ (by simpa using h)

/-- Merging lists that hold the 32 smallest of two collections holds those of both, at each lane. -/
theorem lane_mergeTop {R S : List (Wire Ideal)} {M N : List Entry} (l : Nat) (hR : Net.Top (lane r R l) M) (hS : Net.Top (lane r S l) N) :
    Net.Top (lane r (Net.mergeTop lo hi R S) l) (M ++ N) := by
  unfold lane
  rw [Net.map_mergeTop lo hi min max (entryAt (place r l)) (entryAt_lo _) (entryAt_hi _)]
  exact hR.mergeTop hS

/-- After the four sorts and the merges each lane holds the 32 smallest of its 128 entries. -/
theorem lane_lanes (w : List (Wire Ideal)) (h : w.length = 128) (l : Nat) : Net.Top (lane r (lanes w) l) (lane r w l) := by
  have h0 := lane_sort r (w.take 32) l (by simp [h])
  have h1 := lane_sort r ((w.drop 32).take 32) l (by simp [h])
  have h2 := lane_sort r ((w.drop 64).take 32) l (by simp [h])
  have h3 := lane_sort r ((w.drop 96).take 32) l (by simp [h])
  refine (lane_mergeTop r l (lane_mergeTop r l h0 h1) (lane_mergeTop r l h2 h3)).perm (List.Perm.of_eq ?_)
  unfold lane
  rw [← List.map_append, ← List.map_append, ← List.map_append]
  congr 1
  have e3 : (w.drop 96).take 32 = w.drop 96 := List.take_of_length_le (by simp [h])
  have e2 : (w.drop 64).take 32 ++ w.drop 96 = w.drop 64 := by
    have := List.take_append_drop 32 (w.drop 64); rwa [List.drop_drop] at this
  have e1 : (w.drop 32).take 32 ++ w.drop 64 = w.drop 32 := by
    have := List.take_append_drop 32 (w.drop 32); rwa [List.drop_drop] at this
  rw [e3, e2, List.append_assoc, e1, List.take_append_drop]

/-- One merge with the wires rolled joins two lanes' collections. -/
theorem lane_step (n : Nat) (hn : n < 128) (R : List (Wire Ideal)) (M : Nat → List Entry) (h : ∀ l, Net.Top (lane r R l) (M l)) (l : Nat) :
    Net.Top (lane r (step n R) l) (M l ++ M (l + (128 - n))) := by
  refine lane_mergeTop r l (h l) ?_
  have e : lane r (R.map (roll n)) l = lane r R (l + (128 - n)) := by
    unfold lane
    rw [List.map_map]
    exact List.map_congr_left fun w _ => entryAt_roll n hn w r l
  rw [e]
  exact h _

/-- The entries of `k` lanes from lane `l` on. -/
def gather (w : List (Wire Ideal)) (k l : Nat) : List Entry := (List.range k).flatMap fun i => lane r w (l + i)

/-- The entries of `k + m` neighbouring lanes are those of the first `k` and of the next `m`. -/
theorem gather_add (w : List (Wire Ideal)) (k m l : Nat) : gather r w (k + m) l = gather r w k l ++ gather r w m (l + k) := by
  unfold gather
  rw [List.range_add, List.flatMap_append, List.flatMap_map]
  simp only [Nat.add_assoc]

/-- After the seven rotations lane 0 holds the 32 smallest of all the lanes together. -/
theorem lane_final (w : List (Wire Ideal)) (h : w.length = 128) : Net.Top (lane r (final w) 0) (gather r w 128 0) := by
  have g0 : ∀ l, Net.Top (lane r (lanes w) l) (gather r w 1 l) := fun l => by
    have := lane_lanes r w h l
    unfold gather
    simpa using this
  have go : ∀ (k n : Nat) (hn : n < 128) (hk : 128 - n = k) (R : List (Wire Ideal)), (∀ l, Net.Top (lane r R l) (gather r w k l)) →
      ∀ l, Net.Top (lane r (step n R) l) (gather r w (k + k) l) := fun k n hn hk R hR l => by
    rw [gather_add]
    have := lane_step r n hn R _ hR l
    rwa [hk] at this
  exact go 64 64 (by decide) rfl _ (go 32 96 (by decide) rfl _ (go 16 112 (by decide) rfl _ (go 8 120 (by decide) rfl _
    (go 4 124 (by decide) rfl _ (go 2 126 (by decide) rfl _ (go 1 127 (by decide) rfl _ g0)))))) 0

end

end Cert.KernelIdeal.Network
-- ==== Proof.Select.lean ====
/-
  The first 32 of a stable sort of positions by a value are the 32 least pairs (value, position).
-/
module

public import proofs.«01_k».proof.Proof.Net
public import Idealize.ShloMosaic.Lib.SortPrefix
public import Mathlib.Data.Prod.Lex
public import Mathlib.Data.EReal.Basic

@[expose] public section

noncomputable section

namespace Cert.Select

open Idealize.ShloMosaic

/-- Two relations that agree on an element and the earlier ones of a list sort it alike. -/
theorem stableSort_eq_of_pairwise {ι : Type} (R R' : ι → ι → Bool) :
    ∀ l : List ι, l.Pairwise (fun a b => R b a = R' b a) → stableSort R l = stableSort R' l
  | [], _ => rfl
  | a :: l, h => by
    obtain ⟨ha, hl⟩ := List.pairwise_cons.mp h
    unfold stableSort
    rw [stableSort_eq_of_pairwise R R' l hl]
    exact insertBefore_congr R R' a _ fun b hb => ha b ((perm_stableSort R' l).mem_iff.mp hb)

/-- A position's value with the position. -/
def pair {n : Nat} (K : Fin n → EReal) (p : Fin n) : EReal ×ₗ EReal := toLex (K p, ((p.val : ℝ) : EReal))

/-- A pair comes before another by its key, and at equal keys by its position. -/
theorem pair_lt {n : Nat} (K : Fin n → EReal) (p q : Fin n) : pair K p < pair K q ↔ K p < K q ∨ (K p = K q ∧ p < q) := by
  unfold pair
  rw [Prod.Lex.toLex_lt_toLex]
  simp only [EReal.coe_lt_coe_iff, Nat.cast_lt, Fin.lt_def]

/-- Pairs at different positions differ. -/
theorem pair_injective {n : Nat} (K : Fin n → EReal) : Function.Injective (pair K) := by
  intro p q h
  rcases lt_trichotomy p q with hlt | heq | hgt
  · rcases lt_trichotomy (K p) (K q) with h1 | h1 | h1
    · exact absurd h (ne_of_lt ((pair_lt K p q).mpr (Or.inl h1)))
    · exact absurd h (ne_of_lt ((pair_lt K p q).mpr (Or.inr ⟨h1, hlt⟩)))
    · exact absurd h.symm (ne_of_lt ((pair_lt K q p).mpr (Or.inl h1)))
  · exact heq
  · rcases lt_trichotomy (K p) (K q) with h1 | h1 | h1
    · exact absurd h (ne_of_lt ((pair_lt K p q).mpr (Or.inl h1)))
    · exact absurd h.symm (ne_of_lt ((pair_lt K q p).mpr (Or.inr ⟨h1.symm, hgt⟩)))
    · exact absurd h.symm (ne_of_lt ((pair_lt K q p).mpr (Or.inl h1)))

/-- The order of the pairs is a strict total one on the positions. -/
theorem before_total {n : Nat} (K : Fin n → EReal) : StrictTotalBefore fun p q : Fin n => decide (pair K p < pair K q) where
  irrefl p := by simp
  trans p q s h1 h2 := by simp only [decide_eq_true_eq] at *; exact h1.trans h2
  total p q h := by
    simp only [decide_eq_true_eq]
    exact lt_or_gt_of_ne fun e => h (pair_injective K e)

/-- The sorted positions by value are in the order of the pairs. -/
theorem sorted_pairs {n : Nat} (K : Fin n → EReal) (before : Fin n → Fin n → Bool) (hb : ∀ p q, before p q = decide (K p < K q)) :
    ((sortPositions n before).map (pair K)).Pairwise (· ≤ ·) := by
  have e : sortPositions n before = stableSort (fun p q : Fin n => decide (pair K p < pair K q)) (List.finRange n) := by
    refine stableSort_eq_of_pairwise _ _ _ ((List.pairwise_lt_finRange n).imp fun {a b} hab => ?_)
    rw [hb]
    refine decide_eq_decide.mpr ?_
    rw [pair_lt]
    exact ⟨Or.inl, fun h => h.elim id fun h => absurd h.2 (not_lt.mpr (le_of_lt hab))⟩
  rw [e, List.pairwise_map]
  refine ((before_total K).sorted_stableSort (List.finRange n)).imp fun {a b} h => ?_
  exact not_lt.mp (of_decide_eq_false h)

/-- The pair at place `i` of the sort is the `i`-th of the 32 least pairs. -/
theorem sortedFrom_pair {n : Nat} (K : Fin n → EReal) (before : Fin n → Fin n → Bool) (hb : ∀ p q, before p q = decide (K p < K q))
    (R M : List (EReal ×ₗ EReal)) (hR : Net.Top R M) (hM : M.Perm ((List.finRange n).map (pair K))) (i : Fin n) (hi : i.val < R.length) :
    pair K (sortedFrom before i) = R[i.val]'hi := by
  obtain ⟨rest, hp, hd⟩ := hR.split
  have hs : (R ++ rest.mergeSort (· ≤ ·)).Pairwise (· ≤ ·) := by
    refine List.pairwise_append.mpr ⟨hR.sorted, ?_, fun x hx y hy => hd x hx y ((List.mergeSort_perm rest _).mem_iff.mp hy)⟩
    have := List.pairwise_mergeSort (le := fun a b : EReal ×ₗ EReal => decide (a ≤ b))
      (fun a b c h1 h2 => by simp only [decide_eq_true_eq] at *; exact le_trans h1 h2)
      (fun a b => by simp only [Bool.or_eq_true, decide_eq_true_eq]; exact le_total a b) rest
    exact this.imp fun h => of_decide_eq_true h
  have hperm : ((sortPositions n before).map (pair K)).Perm (R ++ rest.mergeSort (· ≤ ·)) := by
    refine ((perm_sortPositions n before).map _).trans (hM.symm.trans (hp.symm.trans ?_))
    exact (List.mergeSort_perm rest _).symm.append_left R
  have e := hperm.eq_of_pairwise (fun a b _ _ h1 h2 => le_antisymm h1 h2) (sorted_pairs K before hb) hs
  have hl : i.val < ((sortPositions n before).map (pair K)).length := by
    rw [List.length_map, length_sortPositions]; exact i.isLt
  have h1 : pair K (sortedFrom before i) = ((sortPositions n before).map (pair K))[i.val]'hl := by
    rw [List.getElem_map]; rfl
  rw [h1, List.getElem_of_eq e, List.getElem_append_left hi]

end Cert.Select
-- ==== Proof.Points.lean ====
/-
  The wires at one place over the extended reals: the squared distance of a query and a point, with the point's number; and
  all the lanes together are all the points.
-/
module

public import proofs.«01_k».proof.Proof.Lanes
public import proofs.«01_k».proof.Proof.Select
public import Idealize.ShloMosaic.Lib.Pipeline.Value

@[expose] public section

set_option maxRecDepth 16384

noncomputable section

namespace Cert.KernelIdeal.Network

open Idealize.ShloMosaic Idealize.ShloMosaic.TcCoe Idealize.ShloMosaic.ValueIdx
open Cert.KernelIdeal.Gen

/-! ## The number of a point -/

/-- The fields of the float `128 * e`: a positive number with its exponent and its fraction. -/
theorem bits_fields : ∀ e : Fin 128, e.val ≠ 0 → (bits e.val).extractLsb' 31 1 = 0#1 ∧ ((bits e.val).extractLsb' 23 8).toNat = 134 + e.val.log2 ∧
    2 ^ 23 + ((bits e.val).extractLsb' 0 23).toNat = e.val * 2 ^ (23 - e.val.log2) ∧ e.val.log2 ≤ 6 := by decide +kernel

/-- The word of the number 0 is zero. -/
theorem bits_zero : bits 0 = 0#32 := by decide +kernel

/-- The word `bits e` is the float of `128 * e`. -/
theorem ofBits_bits (e : Nat) (he : e < 128) : Ideal.ofBits .f32 (bits e) = (((128 * e : ℕ) : ℝ) : EReal) := by
  by_cases h0 : e = 0
  · subst h0
    rw [bits_zero]
    simp [Ideal.ofBits, Ideal.ieee]
  · obtain ⟨h1, h2, h3, h4⟩ := bits_fields ⟨e, he⟩ h0
    simp only at h1 h2 h3 h4
    have h5 : ((2 : ℝ) ^ 23 + (((bits e).extractLsb' 0 23).toNat : ℝ)) = e * 2 ^ (23 - e.log2) := by exact_mod_cast h3
    show Ideal.ieee 8 23 (bits e) = _
    unfold Ideal.ieee
    simp only [Nat.reduceAdd, h1, h2]
    rw [if_neg (by omega), if_neg (by omega)]
    congr 1
    push_cast
    have h6 : (2 : ℝ) ^ (134 + (e.log2 : ℤ) - (2 ^ 7 - 1) - 23) = 2 ^ 7 / 2 ^ (23 - e.log2) := by
      rw [eq_div_iff (by positivity), ← zpow_natCast, ← zpow_natCast, ← zpow_add₀ (by norm_num)]
      congr 1
      push_cast [Nat.cast_sub (show e.log2 ≤ 23 by omega)]
      ring
    norm_num at h5 h6 ⊢
    rw [h5, h6]
    field_simp

/-- The number at depth `e` and lane `l` is `128 * e + l`. -/
theorem index_apply (e : Nat) (he : e < 128) (r : Fin 8) (l : Nat) :
    (index (F := Ideal) e (place r l) : EReal) = (((128 * e + l % 128 : ℕ) : ℝ) : EReal) := by
  show ((((BitVec.ofNat 32 (0 * 128 + l % 128)).toInt : ℝ)) : EReal) + Ideal.ofBits .f32 (bits e) = _
  rw [ofBits_bits e he, ← EReal.coe_add]
  congr 1
  have h : (BitVec.ofNat 32 (0 * 128 + l % 128)).toInt = ((l % 128 : ℕ) : ℤ) := by
    have hn : (BitVec.ofNat 32 (0 * 128 + l % 128)).toNat = l % 128 := by rw [BitVec.toNat_ofNat]; omega
    rw [BitVec.toInt_eq_toNat_of_lt (by rw [hn]; omega), hn]
  rw [h]
  generalize l % 128 = k
  push_cast
  ring

/-- A number below 16384, held as a float, converts to that integer. -/
theorem fptosi_number (n : Nat) (hn : n < 16384) : Ideal.fptosi 32 (((n : ℕ) : ℝ) : EReal) = BitVec.ofNat 32 n := by
  unfold Ideal.fptosi
  rw [Ideal.toIntClamped_coe, if_pos (by positivity)]
  have h : (⌊((n : ℕ) : ℝ)⌋ : ℤ) = (n : ℤ) := by simp
  rw [h, min_eq_right (by first | omega | (norm_num; omega) | norm_num), max_eq_right (by first | omega | (norm_num; omega) | norm_num)]
  exact BitVec.ofInt_natCast 32 n

/-! ## The squared distance -/

/-- The kernel's squared distance of a query and a point, from their coordinates. -/
def sqDist (q p : Fin 3 → EReal) : EReal :=
  (((q 0 * q 0 + q 1 * q 1) + q 2 * q 2) + ((p 0 * p 0 + p 1 * p 1) + p 2 * p 2)) -
    Ideal.ofBits .f32 0x40000000#32 * ((q 0 * p 0 + q 1 * p 1) + q 2 * p 2)

/-- The reshaped coordinate of a query. -/
theorem castQ_apply (x : FVec Ideal S1x1x8x1 .f32) (r : Fin 8) :
    shapeCast S8x1 x shapeCasts_S1x1x8x1_S8x1 (ix2 r 0) = x (ix4 0 0 r 0) :=
  shapeCast_apply _ _ _ _ (by revert r; decide +kernel)

/-- The reshaped coordinate of a row of points. -/
theorem castP_apply (x : FVec Ideal S1x1x1x128 .f32) (l : Fin 128) :
    shapeCast S1x128 x shapeCasts_S1x1x1x128_S1x128 (ix2 0 l) = x (ix4 0 0 0 l) :=
  shapeCast_apply _ _ _ _ (by revert l; decide +kernel)

/-- A coordinate of a query, repeated along the lanes. -/
theorem broadcastQ_apply (x : FVec Ideal S8x1 .f32) (r : Fin 8) (l : Nat) :
    broadcastTo S8x128 x broadcasts_S8x1_S8x128 (place r l) = x (ix2 r 0) := by
  refine broadcastTo_apply _ _ _ _ fun a => ?_
  match a with
  | ⟨0, _⟩ => rfl
  | ⟨1, _⟩ => rfl

/-- A coordinate of a point, repeated along the queries. -/
theorem broadcastP_apply (x : FVec Ideal S1x128 .f32) (r : Fin 8) (l : Nat) :
    broadcastTo S8x128 x broadcasts_S1x128_S8x128 (place r l) = x (ix2 0 ⟨l % 128, Nat.mod_lt _ (by decide)⟩) := by
  refine broadcastTo_apply _ _ _ _ fun a => ?_
  match a with
  | ⟨0, _⟩ => rfl
  | ⟨1, _⟩ => rfl

/-- The distance that the kernel computes at a place is that of its query and its point. -/
theorem dist_apply (q0 q1 q2 : FVec Ideal S8x1 .f32) (p0 p1 p2 : FVec Ideal S1x128 .f32) (r : Fin 8) (l : Nat) :
    (dist q0 q1 q2 p0 p1 p2 (place r l) : EReal) =
      sqDist ![q0 (ix2 r 0), q1 (ix2 r 0), q2 (ix2 r 0)]
        ![p0 (ix2 0 ⟨l % 128, Nat.mod_lt _ (by decide)⟩), p1 (ix2 0 ⟨l % 128, Nat.mod_lt _ (by decide)⟩), p2 (ix2 0 ⟨l % 128, Nat.mod_lt _ (by decide)⟩)] := by
  have e1 := broadcastQ_apply (norm q0 q1 q2) r l
  have e2 := broadcastP_apply (norm p0 p1 p2) r l
  have a0 := broadcastQ_apply (narrow q0) r l
  have a1 := broadcastQ_apply (narrow q1) r l
  have a2 := broadcastQ_apply (narrow q2) r l
  have b0 := broadcastP_apply (narrow p0) r l
  have b1 := broadcastP_apply (narrow p1) r l
  have b2 := broadcastP_apply (narrow p2) r l
  show ((broadcastTo S8x128 (norm q0 q1 q2) broadcasts_S8x1_S8x128 (place r l) : EReal) + broadcastTo S8x128 (norm p0 p1 p2) broadcasts_S1x128_S8x128 (place r l)) -
    Ideal.ofBits .f32 0x40000000#32 *
      (((broadcastTo S8x128 (narrow q0) broadcasts_S8x1_S8x128 (place r l) : EReal) * broadcastTo S8x128 (narrow p0) broadcasts_S1x128_S8x128 (place r l) +
        (broadcastTo S8x128 (narrow q1) broadcasts_S8x1_S8x128 (place r l) : EReal) * broadcastTo S8x128 (narrow p1) broadcasts_S1x128_S8x128 (place r l)) +
        (broadcastTo S8x128 (narrow q2) broadcasts_S8x1_S8x128 (place r l) : EReal) * broadcastTo S8x128 (narrow p2) broadcasts_S1x128_S8x128 (place r l)) = _
  rw [e1, e2, a0, a1, a2, b0, b1, b2]
  rfl

/-! ## All the lanes are all the points -/

/-- The numbers of the points, lane after lane. -/
theorem numbers_perm : ((List.range 128).flatMap fun i => (List.range 128).map fun e => 128 * e + i).Perm (List.range 16384) := by
  refine (List.perm_ext_iff_of_nodup ?_ List.nodup_range).mpr fun n => ?_
  · rw [List.nodup_flatMap]
    refine ⟨fun i _ => List.Nodup.map (fun a b h => by have h' : 128 * a + i = 128 * b + i := h; omega) List.nodup_range, ?_⟩
    refine List.Pairwise.imp_of_mem ?_ (List.pairwise_lt_range (n := 128))
    intro a b ha hb hab n hna hnb
    simp only [List.mem_map, List.mem_range] at ha hb hna hnb
    obtain ⟨x, _, hx⟩ := hna
    obtain ⟨y, _, hy⟩ := hnb
    omega
  · simp only [List.mem_flatMap, List.mem_map, List.mem_range]
    constructor
    · rintro ⟨i, hi, e, he, rfl⟩; omega
    · intro hn
      exact ⟨n % 128, by omega, n / 128, by omega, by omega⟩

section

variable (q : Fin 3 → FVec Ideal S1x1x8x1 .f32) (p : Fin 3 → Nat → FVec Ideal S1x1x1x128 .f32)

/-- The squared distance of a query of the block and a point by its number. -/
def keyOf (r : Fin 8) (n : Nat) : EReal :=
  sqDist (fun k => q k (ix4 0 0 r 0)) (fun k => p k (n / 128) (ix4 0 0 0 ⟨n % 128, Nat.mod_lt _ (by decide)⟩))

/-- There are 128 wires. -/
theorem length_wires : (wires q p).length = 128 := by simp [wires]

/-- All the entries of a query are the pairs of distance and number of the 16384 points, each once. -/
theorem gather_wires (r : Fin 8) : (gather r (wires q p) 128 0).Perm
    ((List.finRange 16384).map (Select.pair fun n => keyOf q p r n.val)) := by
  have e : gather r (wires q p) 128 0 = ((List.range 128).flatMap fun i => (List.range 128).map fun e => 128 * e + i).map
      fun n => (toLex (keyOf q p r n, ((n : ℝ) : EReal)) : Entry) := by
    unfold gather
    rw [List.map_flatMap]
    refine List.flatMap_congr fun i hi => ?_
    have hi' : i < 128 := List.mem_range.mp hi
    unfold lane wires
    rw [List.map_map, List.map_map]
    refine List.map_congr_left fun e he => ?_
    have he' : e < 128 := List.mem_range.mp he
    show entryAt (place r (0 + i)) (_, index e) = _
    unfold entryAt
    have h1 := index_apply e he' r (0 + i)
    have hm : (0 + i) % 128 = i := by omega
    have hd : (128 * e + i) / 128 = e := by omega
    have hr : (128 * e + i) % 128 = i := by omega
    simp only [Function.comp]
    rw [h1, dist_apply]
    unfold keyOf
    simp only [castQ_apply, castP_apply, hm, hd, hr]
    congr 2
  rw [e]
  refine (numbers_perm.map _).trans (List.Perm.of_eq ?_)
  rw [← List.map_coe_finRange_eq_range, List.map_map]
  rfl

/-- The column that is stored is the integer of the number at lane 0. -/
theorem column_apply (x : FVec Ideal S8x128 .f32) (r : Fin 8) : column x (ix3 0 r 0) = Ideal.fptosi 32 (x (place r 0)) := by
  unfold column
  rw [shapeCast_apply (s := S8x1) (t := S1x8x1) _ _ (ix3 0 r 0) (ix2 r 0) (by revert r; decide +kernel)]
  show Ideal.fptosi 32 (extractStridedSlice S8x1 ![0, 0] x slices_S8x128_o0_0_S8x1 (ix2 r 0)) = _
  rw [extractStridedSlice_apply (s := S8x128) (t := S8x1) ![0, 0] x slices_S8x128_o0_0_S8x1 (ix2 r 0) (place r 0)
    (fun a => by match a with | ⟨0, _⟩ => exact (Nat.zero_add _).symm | ⟨1, _⟩ => rfl)]

/-- The network leaves 32 wires. -/
theorem length_final (w : List (Wire Ideal)) (h : w.length = 128) : (final w).length = 32 := by
  have := (lane_final 0 w h).len
  simpa [lane] using this

omit q p in
/-- If a wire holds the pair of a point at a place, its number there is the point's. -/
theorem number_of_pair {n : Nat} (K : Fin n → EReal) (a : Fin n) (j : S8x128.Idx) (w : Wire Ideal) (h : Select.pair K a = entryAt j w) :
    (w.2 j : EReal) = ((a.val : ℝ) : EReal) :=
  (congrArg (fun x : Entry => (ofLex x).2) h).symm

omit q p in
/-- A wire of a list that holds the 32 least pairs stores the number of the point at its place of the stable sort. -/
theorem column_of_top {n : Nat} (hn : n ≤ 16384) (K : Fin n → EReal) (r : Fin 8) (before : Fin n → Fin n → Bool)
    (hb : ∀ a b, before a b = decide (K a < K b)) (R : List (Wire Ideal)) (M : List Entry) (junk : Wire Ideal)
    (ht : Net.Top (lane r R 0) M) (hM : M.Perm ((List.finRange n).map (Select.pair K))) (i : Fin n) (hi : i.val < 32) :
    column (R.getD i.val junk).2 (ix3 0 r 0) = BitVec.ofNat 32 (sortedFrom before i).val := by
  have hl : i.val < (lane r R 0).length := by rw [ht.len]; exact hi
  have hl' : i.val < R.length := by simpa [lane] using hl
  have h := Select.sortedFrom_pair K before hb _ _ ht hM i hl
  have hg : R.getD i.val junk = R[i.val]'hl' := by
    rw [List.getD_eq_getElem?_getD, List.getElem?_eq_getElem hl']; rfl
  rw [List.getElem_map] at h
  rw [column_apply, hg, number_of_pair K (sortedFrom before i) (place r 0) (R[i.val]'hl') h]
  exact fptosi_number _ (lt_of_lt_of_le (sortedFrom before i).isLt hn)

/-- Column `j` of the result is the number of the point at place `j` of the stable sort of all points by their squared distance. -/
theorem column_final (r : Fin 8) (i : Fin 16384) (hi : i.val < 32) (junk : Wire Ideal) (before : Fin 16384 → Fin 16384 → Bool)
    (hb : ∀ a b, before a b = decide (keyOf q p r a.val < keyOf q p r b.val)) :
    column ((final (wires q p)).getD i.val junk).2 (ix3 0 r 0) = BitVec.ofNat 32 (sortedFrom before i).val :=
  column_of_top (le_refl _) (fun n : Fin 16384 => keyOf q p r n.val) r before hb (final (wires q p)) _ junk
    (lane_final r (wires q p) (length_wires q p)) (gather_wires q p r) i hi

end

end Cert.KernelIdeal.Network
-- ==== Proof.Block.lean ====
/-
  What a grid point leaves in its block of the result, from its two input blocks.
-/
module

public import proofs.«01_k».proof.Proof.Match
public import proofs.«01_k».proof.Proof.Points
public import proofs.«01_k».proof.Proof.Gen.KernelIdeal.Frame
public import Idealize.ShloMosaic.Lib.Pipeline.Value

@[expose] public section

set_option maxRecDepth 16384

noncomputable section

namespace Cert.KernelIdeal.Network

open Idealize.ShloMosaic Idealize.ShloMosaic.TcCoe Idealize.ShloMosaic.ValueIdx
open Cert.KernelIdeal.Gen

/-- The store of column `j` writes at column `j`. -/
theorem rectO_emb (j : Fin 32) (r : Fin 8) : (rectO j.val).emb (ix3 0 r 0) = ix3 0 r j := by
  refine funext fun a => Fin.ext ?_
  have hj : j.val % 32 = j.val := Nat.mod_eq_of_lt j.isLt
  match a with
  | ⟨0, _⟩ => rfl
  | ⟨1, _⟩ => show 0 + 1 * r.val = r.val; omega
  | ⟨2, _⟩ => show j.val % 32 + 1 * 0 = j.val; omega

/-- The stores of two different columns do not meet. -/
theorem mem_rectO (j i : Fin 32) (r : Fin 8) (h : (ix3 0 r j : S1x8x32.Idx) ∈ (rectO i.val).set) : i = j := by
  have h' := Rect.mem_set_unit.mp h (2 : Fin 3)
  have hi : i.val % 32 = i.val := Nat.mod_eq_of_lt i.isLt
  have h1 : i.val % 32 ≤ j.val ∧ j.val < i.val % 32 + 1 := h'
  exact Fin.ext (by omega)

/-- The stored columns, read back. -/
theorem read_pieces {κ : Kind} {sp : Space} (v : View sig κ sp S1x8x32 .i32) (f : v.ty.Contents (Elt Ideal)) (R : List (Wire Ideal)) (junk : Wire Ideal)
    (r : Fin 8) (j : Fin 32) :
    v.read (Elt Ideal) (v.writes (Elt Ideal) f (pieces R junk)) (ix3 0 r j) = column (R.getD j.val junk).2 (ix3 0 r 0) := by
  have h := View.read_writes_of_unique v f (⟨rectO j.val, column (R.getD j.val junk).2⟩ : View.Piece (Elt Ideal) S1x8x32 .i32) (ix3 0 r 0)
    (pieces R junk) ?_ ?_
  · rw [rectO_emb j r] at h
    exact h
  · unfold pieces
    refine List.mem_map.mpr ⟨31 - j.val, List.mem_range.mpr (by omega), ?_⟩
    have : 31 - (31 - j.val) = j.val := by omega
    rw [this]
  · intro p hp hm
    unfold pieces at hp
    obtain ⟨i, hi, rfl⟩ := List.mem_map.mp hp
    have hi' := List.mem_range.mp hi
    rw [rectO_emb j r] at hm
    have := congrArg Fin.val (mem_rectO j ⟨31 - i, by omega⟩ r hm)
    have this : 31 - i = j.val := this
    rw [this]

/-- The squared distance of query `r` of a block of queries and point `n`, the points cut into 128 rows of 128. -/
def blockKey (x0 : Vec Ideal S1x3x128x128 .f32) (x1 : Vec Ideal S1x3x8x1 .f32) (r : Fin 8) (n : Fin 16384) : EReal :=
  sqDist (fun k => x1 (ix4 0 k r 0)) (fun k => x0 (ix4 0 k ⟨n.val / 128, by omega⟩ ⟨n.val % 128, Nat.mod_lt _ (by decide)⟩))

/-- What the body reads of a query is its coordinate in the block. -/
theorem readQ (arg3 : Memref sig .tc .vmem S1x3x8x1 .f32) (harg3 : arg3.IsWhole) (x1 : Vec Ideal S1x3x8x1 .f32) (k : Fin 3) (r : Fin 8) :
    View.readAt (Elt Ideal) arg3.view (rectQ k).toLoadRect (harg3.unread x1) (ix4 0 0 r 0) = x1 (ix4 0 k r 0) := by
  refine (congrFun (harg3.read_unread x1) _).trans (congrArg x1 (funext fun a => Fin.ext ?_))
  match a with
  | ⟨0, _⟩ => rfl
  | ⟨1, _⟩ => show k.val + 1 * 0 = k.val; omega
  | ⟨2, _⟩ => show 0 + 1 * r.val = r.val; omega
  | ⟨3, _⟩ => rfl

/-- What the body reads of the points is their coordinate in the block. -/
theorem readP (arg2 : Memref sig .tc .vmem S1x3x128x128 .f32) (harg2 : arg2.IsWhole) (x0 : Vec Ideal S1x3x128x128 .f32) (k : Fin 3) (e : Fin 128) (l : Fin 128) :
    View.readAt (Elt Ideal) arg2.view (rectP k e.val).toLoadRect (harg2.unread x0) (ix4 0 0 0 l) = x0 (ix4 0 k e l) := by
  refine (congrFun (harg2.read_unread x0) _).trans (congrArg x0 (funext fun a => Fin.ext ?_))
  have he : e.val % 128 = e.val := Nat.mod_eq_of_lt e.isLt
  match a with
  | ⟨0, _⟩ => rfl
  | ⟨1, _⟩ => show k.val + 1 * 0 = k.val; omega
  | ⟨2, _⟩ => show e.val % 128 + 1 * 0 = e.val; omega
  | ⟨3, _⟩ => show 0 + 1 * l.val = l.val; omega

/-- Column `j` of a grid point's block, at query `r`: the number of the point at place `j` of the stable sort by squared distance. -/
theorem out_apply (c : Dev nD) (i : grid0.Coords) (arg2 : Memref sig .tc .vmem S1x3x128x128 .f32) (harg2 : arg2.IsWhole)
    (arg3 : Memref sig .tc .vmem S1x3x8x1 .f32) (harg3 : arg3.IsWhole) (arg4 : Memref sig .tc .vmem S1x8x32 .i32)
    (harg4 : arg4.IsWhole) (arg5 : Memref sig .tc .vmem S8x128 .f32) (harg5 : arg5.IsWhole)
    (x0 : Vec Ideal S1x3x128x128 .f32) (x1 : Vec Ideal S1x3x8x1 .f32) (r : Fin 8) (j : Fin 32) :
    out0_A_2 c i arg2 harg2 arg3 harg3 arg4 harg4 arg5 harg5 x0 x1 (ix3 0 r j) =
      BitVec.ofNat 32 (sortedFrom (fun a b : Fin 16384 => decide (blockKey x0 x1 r a < blockKey x0 x1 r b)) ⟨j.val, by omega⟩).val := by
  have junk : Wire Ideal := (fun _ => (0 : EReal), fun _ => (0 : EReal))
  unfold out0_A_2
  rw [run_eq c i arg2 harg2 arg3 harg3 arg4 harg4 arg5 harg5 x0 x1 junk, read_pieces]
  unfold loaded
  refine column_final _ _ r (⟨j.val, by omega⟩ : Fin 16384) j.isLt junk _ fun a b => ?_
  have hk : ∀ n : Fin 16384, keyOf (fun k => View.readAt (Elt Ideal) arg3.view (rectQ k).toLoadRect (harg3.unread x1))
      (fun k e => View.readAt (Elt Ideal) arg2.view (rectP k e).toLoadRect (harg2.unread x0)) r n.val = blockKey x0 x1 r n := by
    intro n
    unfold keyOf blockKey
    congr 1
    · exact funext fun k => readQ arg3 harg3 x1 k r
    · exact funext fun k => readP arg2 harg2 x0 k ⟨n.val / 128, by omega⟩ ⟨n.val % 128, Nat.mod_lt _ (by decide)⟩
  rw [hk a, hk b]

end Cert.KernelIdeal.Network
-- ==== Proof.Reference.lean ====
/-
  What the reference returns: the numbers of the 32 first points of the stable sort by squared distance.
-/
module

public import proofs.«01_k».proof.Proof.Points
public import proofs.«01_k».proof.Proof.Gen.ReferenceIdeal.Run
public import Idealize.ShloMosaic.Lib.Pipeline.Value
public import Idealize.ShloMosaic.Lib.Pointwise.Reduce

@[expose] public section

set_option maxRecDepth 16384

noncomputable section

namespace Cert.Nearest

open Idealize.ShloMosaic hiding ix2 ix3 ix4
open Idealize.ShloMosaic.TcCoe Idealize.ShloMosaic.ValueIdx
open Cert.ReferenceIdeal Cert.ReferenceIdeal.Gen
open Cert.KernelIdeal.Network (sqDist)

/-- The squared distance of query `m` and point `n` of batch `b`. -/
def key (x : (⟨3, ![4, 16384, 3]⟩ : Shape).Idx → EReal) (y : (⟨3, ![4, 1024, 3]⟩ : Shape).Idx → EReal) (b : Fin 4) (m : Fin 1024) (n : Fin 16384) : EReal :=
  sqDist (fun k => y (ix3 b m k)) (fun k => x (ix3 b n k))

/-- The number of the point at place `j` of the stable sort by squared distance. -/
def number (x : (⟨3, ![4, 16384, 3]⟩ : Shape).Idx → EReal) (y : (⟨3, ![4, 1024, 3]⟩ : Shape).Idx → EReal) (b : Fin 4) (m : Fin 1024) (j : Fin 32) : BitVec 32 :=
  BitVec.ofNat 32 (sortedFrom (fun a a' => decide (key x y b m a < key x y b m a')) ⟨j.val, by omega⟩).val

/-- The numbers as an array. -/
def numbers (x : (⟨3, ![4, 16384, 3]⟩ : Shape).Idx → EReal) (y : (⟨3, ![4, 1024, 3]⟩ : Shape).Idx → EReal) : (⟨3, ![4, 1024, 32]⟩ : Shape).Idx → BitVec 32 :=
  fun i => number x y (i 0) (i 1) (i 2)

/-- The reference's squared distances. -/
def dists (x : FVec Ideal S4x16384x3 .f32) (y : FVec Ideal S4x1024x3 .f32) : FVec Ideal S4x1024x16384 .f32 :=
  subf (addf (broadcastInDim S4x1024x16384 ![0, 1, 2] bcast_S4x1024x1_S4x1024x16384_0_1_2 (broadcastInDim S4x1024x1 ![0, 1] bcast_S4x1024_S4x1024x1_0_1 (Host.reduceAdd (mulf y y) (constant S_ .f32 0x00000000#32) reducesTo_S4x1024x3_S4x1024_d2 h_S_)))
    (broadcastInDim S4x1024x16384 ![0, 1, 2] bcast_S4x1x16384_S4x1024x16384_0_1_2 (broadcastInDim S4x1x16384 ![0, 2] bcast_S4x16384_S4x1x16384_0_2 (Host.reduceAdd (mulf x x) (constant S_ .f32 0x00000000#32) reducesTo_S4x16384x3_S4x16384_d2 h_S_))))
    (mulf (broadcastInDim S4x1024x16384 ![] bcast_S_S4x1024x16384 (constant S_ .f32 0x40000000#32)) (Host.dotGeneral dot_S4x1024x3_S4x16384x3_S4x1024x16384_2_2_1_1_0_0 none y x))

/-- The squared length of a query, summed by the reference. -/
theorem normY_apply (y : FVec Ideal S4x1024x3 .f32) (b : Fin 4) (m : Fin 1024) :
    (Host.reduceAdd (mulf y y) (constant S_ .f32 0x00000000#32) reducesTo_S4x1024x3_S4x1024_d2 h_S_ (ix2 b m) : EReal) =
      y (ix3 b m 0) * y (ix3 b m 0) + y (ix3 b m 1) * y (ix3 b m 1) + y (ix3 b m 2) * y (ix3 b m 2) := by
  show Ideal.hostReduceAdd reducesTo_S4x1024x3_S4x1024_d2 (mulf y y) (Ideal.ofBits .f32 0x00000000#32) (ix2 b m) = _
  rw [Ideal.hostReduceAdd_r3_a2, Ideal.ofBits_zero_f32, zero_add, Fin.sum_univ_three]
  rfl

/-- The squared length of a point, summed by the reference. -/
theorem normX_apply (x : FVec Ideal S4x16384x3 .f32) (b : Fin 4) (n : Fin 16384) :
    (Host.reduceAdd (mulf x x) (constant S_ .f32 0x00000000#32) reducesTo_S4x16384x3_S4x16384_d2 h_S_ (ix2 b n) : EReal) =
      x (ix3 b n 0) * x (ix3 b n 0) + x (ix3 b n 1) * x (ix3 b n 1) + x (ix3 b n 2) * x (ix3 b n 2) := by
  show Ideal.hostReduceAdd reducesTo_S4x16384x3_S4x16384_d2 (mulf x x) (Ideal.ofBits .f32 0x00000000#32) (ix2 b n) = _
  rw [Ideal.hostReduceAdd_r3_a2, Ideal.ofBits_zero_f32, zero_add, Fin.sum_univ_three]
  rfl

/-- The product of a query and a point, summed by the reference. -/
theorem cross_apply (x : FVec Ideal S4x16384x3 .f32) (y : FVec Ideal S4x1024x3 .f32) (b : Fin 4) (m : Fin 1024) (n : Fin 16384) :
    (Host.dotGeneral dot_S4x1024x3_S4x16384x3_S4x1024x16384_2_2_1_1_0_0 none y x (ix3 b m n) : EReal) =
      y (ix3 b m 0) * x (ix3 b n 0) + y (ix3 b m 1) * x (ix3 b n 1) + y (ix3 b m 2) * x (ix3 b n 2) := by
  show FloatOps.dotGeneral _ none _ y x (ix3 b m n) = _
  rw [Ideal.dotGeneral_apply, ← Equiv.sum_comp (contrEquiv1 dot_S4x1024x3_S4x16384x3_S4x1024x16384_2_2_1_1_0_0 3 rfl rfl).symm]
  have hl : ∀ k : Fin 3, dot_S4x1024x3_S4x16384x3_S4x1024x16384_2_2_1_1_0_0.lhsIdx (ix3 b m n) ((contrEquiv1 dot_S4x1024x3_S4x16384x3_S4x1024x16384_2_2_1_1_0_0 3 rfl rfl).symm k) = ix3 b m k := by
    intro k
    have c := contrEquiv1_symm_val dot_S4x1024x3_S4x16384x3_S4x1024x16384_2_2_1_1_0_0 3 rfl rfl k
    funext ax; apply Fin.ext
    match ax with
    | ⟨0, _⟩ => rfl
    | ⟨1, _⟩ => rfl
    | ⟨2, _⟩ => exact c
  have hr : ∀ k : Fin 3, dot_S4x1024x3_S4x16384x3_S4x1024x16384_2_2_1_1_0_0.rhsIdx (ix3 b m n) ((contrEquiv1 dot_S4x1024x3_S4x16384x3_S4x1024x16384_2_2_1_1_0_0 3 rfl rfl).symm k) = ix3 b n k := by
    intro k
    have c := contrEquiv1_symm_val dot_S4x1024x3_S4x16384x3_S4x1024x16384_2_2_1_1_0_0 3 rfl rfl k
    funext ax; apply Fin.ext
    match ax with
    | ⟨0, _⟩ => rfl
    | ⟨1, _⟩ => rfl
    | ⟨2, _⟩ => exact c
  simp only [hl, hr]
  rw [Fin.sum_univ_three]

/-- The squared distance of a query and a point, as the reference computes it. -/
theorem dists_apply (x : FVec Ideal S4x16384x3 .f32) (y : FVec Ideal S4x1024x3 .f32) (b : Fin 4) (m : Fin 1024) (n : Fin 16384) :
    (dists x y (ix3 b m n) : EReal) = key x y b m n := by
  have e1 : broadcastInDim S4x1024x16384 ![0, 1, 2] bcast_S4x1024x1_S4x1024x16384_0_1_2 (broadcastInDim S4x1024x1 ![0, 1] bcast_S4x1024_S4x1024x1_0_1 (Host.reduceAdd (mulf y y) (constant S_ .f32 0x00000000#32) reducesTo_S4x1024x3_S4x1024_d2 h_S_)) (ix3 b m n) =
      Host.reduceAdd (mulf y y) (constant S_ .f32 0x00000000#32) reducesTo_S4x1024x3_S4x1024_d2 h_S_ (ix2 b m) := by
    rw [broadcastInDim_apply _ _ _ _ (ix3 b m 0 : S4x1024x1.Idx) (by intro a; match a with | ⟨0, _⟩ => rfl | ⟨1, _⟩ => rfl | ⟨2, _⟩ => rfl),
      broadcastInDim_apply _ _ _ _ (ix2 b m : S4x1024.Idx) (by intro a; match a with | ⟨0, _⟩ => rfl | ⟨1, _⟩ => rfl)]
  have e2 : broadcastInDim S4x1024x16384 ![0, 1, 2] bcast_S4x1x16384_S4x1024x16384_0_1_2 (broadcastInDim S4x1x16384 ![0, 2] bcast_S4x16384_S4x1x16384_0_2 (Host.reduceAdd (mulf x x) (constant S_ .f32 0x00000000#32) reducesTo_S4x16384x3_S4x16384_d2 h_S_)) (ix3 b m n) =
      Host.reduceAdd (mulf x x) (constant S_ .f32 0x00000000#32) reducesTo_S4x16384x3_S4x16384_d2 h_S_ (ix2 b n) := by
    rw [broadcastInDim_apply _ _ _ _ (ix3 b 0 n : S4x1x16384.Idx) (by intro a; match a with | ⟨0, _⟩ => rfl | ⟨1, _⟩ => rfl | ⟨2, _⟩ => rfl),
      broadcastInDim_apply _ _ _ _ (ix2 b n : S4x16384.Idx) (by intro a; match a with | ⟨0, _⟩ => rfl | ⟨1, _⟩ => rfl)]
  have e3 := cross_apply x y b m n
  show ((broadcastInDim S4x1024x16384 ![0, 1, 2] bcast_S4x1024x1_S4x1024x16384_0_1_2 (broadcastInDim S4x1024x1 ![0, 1] bcast_S4x1024_S4x1024x1_0_1 (Host.reduceAdd (mulf y y) (constant S_ .f32 0x00000000#32) reducesTo_S4x1024x3_S4x1024_d2 h_S_)) (ix3 b m n) : EReal) +
      broadcastInDim S4x1024x16384 ![0, 1, 2] bcast_S4x1x16384_S4x1024x16384_0_1_2 (broadcastInDim S4x1x16384 ![0, 2] bcast_S4x16384_S4x1x16384_0_2 (Host.reduceAdd (mulf x x) (constant S_ .f32 0x00000000#32) reducesTo_S4x16384x3_S4x16384_d2 h_S_)) (ix3 b m n)) -
    Ideal.ofBits .f32 0x40000000#32 * (Host.dotGeneral dot_S4x1024x3_S4x16384x3_S4x1024x16384_2_2_1_1_0_0 none y x (ix3 b m n) : EReal) = _
  rw [e1, e2, e3, normY_apply, normX_apply]
  rfl

/-- Moving an index along its last axis replaces its last coordinate. -/
theorem along_last (b : Fin 4) (m : Fin 1024) (i n : Fin 16384) :
    (ix3 b m i : S4x1024x16384.Idx).along (2 : Fin 3) n = ix3 b m n := by
  funext a
  match a with
  | ⟨0, _⟩ => rfl
  | ⟨1, _⟩ => rfl
  | ⟨2, _⟩ => rfl

/-- The descending comparison of negated values is the ascending one of the values. -/
theorem before_neg (a b : EReal) : (Ideal.cmpTotal .gt (-a) (-b) == 1#1) = decide (a < b) := by
  show (BitVec.ofBool (decide (-b < -a)) == 1#1) = decide (a < b)
  by_cases h : a < b
  · have h' : -b < -a := EReal.neg_lt_neg_iff.mpr h
    simp [h, h']
  · have h' : ¬ -b < -a := fun h2 => h (EReal.neg_lt_neg_iff.mp h2)
    simp [h, h']

/-- The number that the reference gives to position `p` is `p`. -/
theorem iota_along (b : Fin 4) (m : Fin 1024) (i p : Fin 16384) :
    (if h : 2 < S4x1024x16384.rank then iotaInDim S4x1024x16384 32 ⟨2, h⟩ ((ix3 b m i : S4x1024x16384.Idx).along (2 : Fin 3) p) else 0#32) = BitVec.ofNat 32 p.val := by
  rw [dif_pos (by decide)]
  rfl

/-- The stable sort's positions along the last axis, by an order on a query's distances. -/
theorem sort2_snd (v : FVec Ideal S4x1024x16384 .f32) (b : Fin 4) (m : Fin 1024) (i : Fin 16384) (before : Fin 16384 → Fin 16384 → Bool)
    (h : ∀ k k', (FloatOps.cmpfTotal (F := Ideal) CmpDirection.gt (v (ix3 b m k)) (v (ix3 b m k')) == 1#1) = before k k') :
    (Host.sort2 S4x1024x16384 2 (fun l r => FloatOps.cmpfTotal (F := Ideal) (φ := .f32) CmpDirection.gt l.1 r.1) v
      (fun i => if hd : 2 < S4x1024x16384.rank then iotaInDim S4x1024x16384 32 ⟨2, hd⟩ i else 0#32)).2 (ix3 b m i) = BitVec.ofNat 32 (sortedFrom before i).val := by
  unfold Host.sort2
  rw [dif_pos (by decide)]
  refine (iota_along b m i _).trans ?_
  refine congrArg (fun f : Fin 16384 → Fin 16384 → Bool => BitVec.ofNat 32 (sortedFrom f i).val) (funext fun k => funext fun k' => ?_)
  refine Eq.trans ?_ (h k k')
  rw [← along_last b m i k, ← along_last b m i k']
  rfl

/-- The reference's indices. -/
theorem topK_apply (x : FVec Ideal S4x16384x3 .f32) (y : FVec Ideal S4x1024x3 .f32) (b : Fin 4) (m : Fin 1024) (j : Fin 32) :
    (Host.topK S4x1024x32 2 (FloatOps.cmpfTotal .gt) (Host.negf (dists x y)) sliceFits_S4x1024x16384_S4x1024x32).2 (ix3 b m j) = number x y b m j := by
  unfold Host.topK
  simp only []
  rw [extractStridedSlice_apply (s := S4x1024x16384) (t := S4x1024x32) _ _ _ (ix3 b m j) (ix3 b m ⟨j.val, by omega⟩)
    (fun a => by match a with | ⟨0, _⟩ => exact (Nat.zero_add _).symm | ⟨1, _⟩ => exact (Nat.zero_add _).symm | ⟨2, _⟩ => exact (Nat.zero_add _).symm)]
  refine sort2_snd _ b m _ _ fun k k' => ?_
  rw [← dists_apply, ← dists_apply]
  exact before_neg _ _

end Cert.Nearest
-- ==== Proof.Array.lean ====
/-
  The result array of the idealized kernel, from the argument arrays.
-/
module

public import proofs.«01_k».proof.Proof.Block
public import proofs.«01_k».proof.Proof.Reference
public import Idealize.ShloMosaic.Lib.Pipeline.ValueKit
public import Idealize.ShloMosaic.Lib.StableHlo.Run

@[expose] public section

set_option maxRecDepth 16384

noncomputable section

namespace Cert.KernelIdeal.Network

open Idealize.ShloMosaic hiding ix2 ix3 ix4
open Idealize.ShloMosaic.TcCoe Idealize.ShloMosaic.ValueIdx Idealize.SL.Sem Idealize.ShloMosaic.StableHlo
open Cert.KernelIdeal.Gen

variable (m : (ℓ : Loc nD τ sig) → Buf (Elt Ideal) ℓ) (ρ : Dev nD → PrngReg)

/-- The points as launched. -/
abbrev xyz (c : Dev nD) : FVec Ideal S4x16384x3 .f32 := m ((c : Thread nD τ).loc main_arg0)
/-- The queries as launched. -/
abbrev new (c : Dev nD) : FVec Ideal S4x1024x3 .f32 := m ((c : Thread nD τ).loc main_arg1)

/-- The first operand of the call: the points with their coordinates in front, 128 rows of 128. -/
theorem V_points (c : Dev nD) : V m c main_v1 =
    shapeCast S4x3x128x128 (transpose S4x3x16384 [0, 2, 1] (xyz m c) transposes_S4x16384x3_S4x3x16384_0_2_1) shapeCasts_S4x3x16384_S4x3x128x128 := by
  show StableHlo.after (List.flatten [hostOps0]) (fun b => m (c, b)) (Proc.devRef .tc main_v1) = _
  simp only [hostOps0, List.flatten_cons, List.flatten_nil, List.append_nil]
  after_results
  rfl

/-- The second operand of the call: the queries with their coordinates in front. -/
theorem V_queries (c : Dev nD) : V m c main_v3 =
    broadcastInDim S4x3x1024x1 ![0, 1, 2] bcast_S4x3x1024_S4x3x1024x1_0_1_2 (transpose S4x3x1024 [0, 2, 1] (new m c) transposes_S4x1024x3_S4x3x1024_0_2_1) := by
  show StableHlo.after (List.flatten [hostOps0]) (fun b => m (c, b)) (Proc.devRef .tc main_v3) = _
  simp only [hostOps0, List.flatten_cons, List.flatten_nil, List.append_nil]
  after_results

/-- Row `e` and lane `l` are the place `128 * e + l`. -/
theorem row_major (b : Fin 4) (k : Fin 3) (e l : Fin 128) :
    (S4x3x16384.rowMajor (ix3 b k ⟨e.val * 128 + l.val, by omega⟩ : S4x3x16384.Idx)).val = (S4x3x128x128.rowMajor (ix4 b k e l : S4x3x128x128.Idx)).val := by
  have h1 := Shape.rowMajor_val_three (ix3 b k ⟨e.val * 128 + l.val, by omega⟩ : S4x3x16384.Idx)
  have h2 := Shape.rowMajor_val_four (ix4 b k e l : S4x3x128x128.Idx)
  refine h1.trans (Eq.trans ?_ h2.symm)
  show (b.val * 3 + k.val) * 16384 + (e.val * 128 + l.val) = ((b.val * 3 + k.val) * 128 + e.val) * 128 + l.val
  omega

/-- The first operand at an index is a coordinate of a point. -/
theorem points_apply (c : Dev nD) (b : Fin 4) (k : Fin 3) (e l : Fin 128) :
    V m c main_v1 (ix4 b k e l : S4x3x128x128.Idx) = xyz m c (ix3 b ⟨e.val * 128 + l.val, by omega⟩ k) := by
  rw [V_points, shapeCast_apply _ _ _ (ix3 b k ⟨e.val * 128 + l.val, by omega⟩ : S4x3x16384.Idx) ?_,
    transpose_apply _ _ _ _ (ix3 b ⟨e.val * 128 + l.val, by omega⟩ k : S4x16384x3.Idx) ?_]
  · intro a; match a with | ⟨0, _⟩ => rfl | ⟨1, _⟩ => rfl | ⟨2, _⟩ => rfl
  · exact row_major b k e l

/-- The second operand at an index is a coordinate of a query. -/
theorem queries_apply (c : Dev nD) (b : Fin 4) (k : Fin 3) (i : Fin 1024) :
    V m c main_v3 (ix4 b k i 0 : S4x3x1024x1.Idx) = new m c (ix3 b i k) := by
  rw [V_queries, broadcastInDim_apply _ _ _ _ (ix3 b k i : S4x3x1024.Idx) ?_,
    transpose_apply _ _ _ _ (ix3 b i k : S4x1024x3.Idx) ?_]
  · intro a; match a with | ⟨0, _⟩ => rfl | ⟨1, _⟩ => rfl | ⟨2, _⟩ => rfl
  · intro a; match a with | ⟨0, _⟩ => rfl | ⟨1, _⟩ => rfl | ⟨2, _⟩ => rfl

/-- The block of points at a grid step: its batch. -/
theorem index0 : ∀ t : Fin cfg0.N, win0_0.index t = ![(grid0.coords t 0).val, 0, 0, 0] := (by decide +kernel : ∀ t : Fin grid0.N, _)
/-- The block of queries at a grid step: its batch and its group of 8 queries. -/
theorem index1 : ∀ t : Fin cfg0.N, win0_1.index t = ![(grid0.coords t 0).val, 0, (grid0.coords t 1).val, 0] := (by decide +kernel : ∀ t : Fin grid0.N, _)
/-- The block of results at a grid step: its batch and its group of 8 queries. -/
theorem index2 : ∀ t : Fin cfg0.N, win0_2.index t = ![(grid0.coords t 0).val, (grid0.coords t 1).val, 0] := (by decide +kernel : ∀ t : Fin grid0.N, _)

/-- There are 4 batches and 128 groups of queries. -/
theorem coords_lt : ∀ t : Fin cfg0.N, (grid0.coords t 0).val < 4 ∧ (grid0.coords t 1).val < 128 := (by decide +kernel : ∀ t : Fin grid0.N, _)

/-- The batch of a grid point. -/
abbrev batch (t : Fin cfg0.N) : Fin 4 := ⟨(grid0.coords t 0).val, (coords_lt t).1⟩
/-- A query of a grid point's block. -/
abbrev query (t : Fin cfg0.N) (r : Fin 8) : Fin 1024 := ⟨(grid0.coords t 1).val * 8 + r.val, by have := (coords_lt t).2; omega⟩

/-- The block of points that a grid step reads. -/
theorem iblk0_apply (c : Dev nD) (t : Fin cfg0.N) (k : Fin 3) (e l : Fin 128) :
    (iblk m c 0 t : Vec Ideal S1x3x128x128 .f32) (ix4 0 k e l) = xyz m c (ix3 (batch t) ⟨e.val * 128 + l.val, by omega⟩ k) := by
  rw [← points_apply m c (batch t) k e l]
  show V m c main_v1 ((win0_0.blk t).view.emb (ix4 0 k e l)) = _
  refine congrArg (V m c main_v1) ?_
  blk_ext [index0]

/-- The block of queries that a grid step reads. -/
theorem iblk1_apply (c : Dev nD) (t : Fin cfg0.N) (k : Fin 3) (r : Fin 8) :
    (iblk m c 1 t : Vec Ideal S1x3x8x1 .f32) (ix4 0 k r 0) = new m c (ix3 (batch t) (query t r) k) := by
  rw [← queries_apply m c (batch t) k (query t r)]
  show V m c main_v3 ((win0_1.blk t).view.emb (ix4 0 k r 0)) = _
  refine congrArg (V m c main_v3) ?_
  blk_ext [index1]

/-- The distances of a grid step are those of its queries and all points of its batch. -/
theorem blockKey_eq (c : Dev nD) (t : Fin cfg0.N) (r : Fin 8) (n : Fin 16384) :
    blockKey (iblk m c 0 t) (iblk m c 1 t) r n = Nearest.key (xyz m c) (new m c) (batch t) (query t r) n := by
  unfold blockKey Nearest.key
  congr 1
  · exact funext fun k => iblk1_apply m c t k r
  · refine funext fun k => (iblk0_apply m c t k _ _).trans ?_
    refine congrArg (fun n' => xyz m c (ix3 (batch t) n' k)) (Fin.ext ?_)
    show n.val / 128 * 128 + n.val % 128 = n.val
    omega

/-- A grid step writes the numbers of the nearest points of its queries. -/
theorem outsAt_apply (c : Dev nD) (t : Fin cfg0.N) (r : Fin 8) (j : Fin 32) :
    outsAt0 m c t (ix3 0 r j) = Nearest.number (xyz m c) (new m c) (batch t) (query t r) j := by
  unfold outsAt0 Nearest.number
  rw [out_apply]
  simp only [blockKey_eq]

/-- The array that the call returns. -/
theorem final_eq (c : Dev nD) : (dats m 0 c).arrAt 2 cfg0.N = (Nearest.numbers (xyz m c) (new m c) : S4x1024x32.Idx → BitVec 32) := by
  refine (dats m 0 c).arrAt_eq_of_covers 2 _ (by decide +kernel) fun t hf y => ?_
  blk_simp
  rw [after0_2]
  idx_bounds y
  have hy : y = (ix3 0 ⟨(y 1).val, hb1⟩ ⟨(y 2).val, hb2⟩ : S1x8x32.Idx) := by
    funext a
    match a with
    | ⟨0, _⟩ => exact Fin.ext (Nat.lt_one_iff.mp hb0)
    | ⟨1, _⟩ => rfl
    | ⟨2, _⟩ => rfl
  have he : (win0_2.blk t).view.emb y = (ix3 (batch t) (query t ⟨(y 1).val, hb1⟩) ⟨(y 2).val, hb2⟩ : S4x1024x32.Idx) := by
    blk_ext [index2]
  exact (congrArg (outsAt0 m c t) hy).trans ((outsAt_apply m c t _ _).trans (congrArg (Nearest.numbers (xyz m c) (new m c)) he).symm)

/-- The result of the program: the array with a last axis of one. -/
def result (c : Dev nD) : S4x1024x32x1.Idx → BitVec 32 :=
  broadcastInDim S4x1024x32x1 ![0, 1, 2] bcast_S4x1024x32_S4x1024x32x1_0_1_2 (Nearest.numbers (xyz m c) (new m c))

/-- The host code after the call adds the last axis. -/
theorem tail_eq (c : Dev nD) : Pipeline.afterTail₀ cfgs (dats m) 0 (V0 m) [hostOps1] c main_v5 = result m c := by
  unfold Pipeline.afterTail₀ result
  rw [← final_eq m c, ← Pipeline.withArrays_arr spec0 (by decide) c (V0 m c) (fun w => (dats m 0 c).arrAt w cfg0.N) 2]
  simp only [hostOps1, List.flatten_cons, List.flatten_nil, List.append_nil]
  after_results

/-- The run of the idealized kernel, read at its result and its arguments. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Network
-- ==== Proof.Claims.lean ====
/-
  The claims: the frames, and that the kernel and the reference return the same numbers.
-/
module

public import proofs.«01_k».proof.Defs
public import proofs.«01_k».proof.Proof.Array
public import proofs.«01_k».proof.Proof.Gen.Kernel.Frame
public import Idealize.ShloMosaic.Lib.Quiescent

@[expose] public section

set_option maxRecDepth 16384

noncomputable section

namespace Cert.Nearest

open Idealize.ShloMosaic hiding ix2 ix3 ix4 eq_ix3
open Idealize.ShloMosaic.TcCoe Idealize.ShloMosaic.ValueIdx Idealize.SL.Sem

/-- The reference's array of indices is the array of numbers. -/
theorem reference_eq (x : FVec Ideal Cert.ReferenceIdeal.S4x16384x3 .f32) (y : FVec Ideal Cert.ReferenceIdeal.S4x1024x3 .f32) :
    (Host.topK Cert.ReferenceIdeal.S4x1024x32 2 (FloatOps.cmpfTotal .gt) (Host.negf (dists x y)) Cert.ReferenceIdeal.Gen.facts.sliceFits_S4x1024x16384_S4x1024x32).2 = numbers x y := by
  funext i
  rw [ValueIdx.eq_ix3 i]
  exact topK_apply x y _ _ _

/-- The kernel ends without fault, its arguments and semaphores as at the start. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference over the extended reals. -/
theorem frame_reference : Cert.quiescent_ReferenceIdeal := fun m ρ _ =>
  (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run (F := Ideal) m ρ)

/-- Kernel and reference return the same array over the extended reals. -/
theorem algebraic : Cert.algebraic_KernelIdeal_ReferenceIdeal := by
  intro m ρ m' ρ' _ hagree
  refine ⟨fun c => Cert.KernelIdeal.Network.result m c, Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  unfold Cert.KernelIdeal.Network.result
  exact congrArg _ (reference_eq _ _)

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Nearest
-- ==== Proof.lean ====
/- The certificate: three frames, the (empty) list of rewrites, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every program ends without fault, its arguments and semaphores as at the start, and the kernel's array of
numbers is the reference's. -/
theorem claim : Cert.Claim := Cert.Nearest.claim

end Cert.Proof

end
